-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ preserves_Kernel_KernelIdeal
    ∧ algebraic_KernelIdeal_ReferenceIdeal_pre_finite_values (hKernelIdeal := hKernelIdeal) (hReferenceIdeal := hReferenceIdeal) (hPre_finite_values := hPre_finite_values)
-- ==== Pre_finite_values.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)

variable [Facts]

def fn {F : FTy → Type} [FloatOps F] (main_arg0 : FVec F S8x2048x1024 .bf16) (main_arg1 : FVec F S8x2048x1024 .bf16) (main_arg2 : FVec F S8x2048x1024 .bf16) : IVec S8x2048x1024 1 :=
  let main_v0 : FVec F S8x2048x1024 .bf16 := Host.absf main_arg2
  let main_cst : FVec F S_ .bf16 := constant S_ .bf16 0x7F7F#16
  let main_v1 : FVec F S8x2048x1024 .bf16 := broadcastInDim S8x2048x1024 ![] bcast_S_S8x2048x1024 main_cst
  let main_v2 : IVec S8x2048x1024 1 := cmpf .ole main_v0 main_v1
  main_v2
-- ==== Kernel.lean ====
abbrev S8x2048x1024 : Shape := ⟨3, ![8, 2048, 1024]⟩
abbrev S8x8x16 : Shape := ⟨3, ![8, 8, 16]⟩
abbrev S8x8x32 : Shape := ⟨3, ![8, 8, 32]⟩
abbrev S8x8x128 : Shape := ⟨3, ![8, 8, 128]⟩
abbrev S1x2048x128 : Shape := ⟨3, ![1, 2048, 128]⟩
abbrev S1x8x16 : Shape := ⟨3, ![1, 8, 16]⟩
abbrev S1x8x32 : Shape := ⟨3, ![1, 8, 32]⟩
abbrev S1x8x128 : Shape := ⟨3, ![1, 8, 128]⟩
abbrev S2048x128 : Shape := ⟨2, ![2048, 128]⟩
abbrev S128x2048 : Shape := ⟨2, ![128, 2048]⟩
abbrev S32x128 : Shape := ⟨2, ![32, 128]⟩
abbrev S2x2048x256 : Shape := ⟨3, ![2, 2048, 256]⟩
abbrev S128 : Shape := ⟨1, ![128]⟩
abbrev S1x128 : Shape := ⟨2, ![1, 128]⟩
abbrev S32x64x128 : Shape := ⟨3, ![32, 64, 128]⟩
abbrev S32 : Shape := ⟨1, ![32]⟩
abbrev S32x1 : Shape := ⟨2, ![32, 1]⟩
abbrev S32x1x128 : Shape := ⟨3, ![32, 1, 128]⟩
abbrev S128x32 : Shape := ⟨2, ![128, 32]⟩
abbrev S1x32 : Shape := ⟨2, ![1, 32]⟩
abbrev S1x1x32 : Shape := ⟨3, ![1, 1, 32]⟩
abbrev S1x1x128 : Shape := ⟨3, ![1, 1, 128]⟩
abbrev S16x128x128 : Shape := ⟨3, ![16, 128, 128]⟩
abbrev S16x128 : Shape := ⟨2, ![16, 128]⟩
abbrev S16 : Shape := ⟨1, ![16]⟩
abbrev S16x1 : Shape := ⟨2, ![16, 1]⟩
abbrev S16x1x128 : Shape := ⟨3, ![16, 1, 128]⟩
abbrev S128x16 : Shape := ⟨2, ![128, 16]⟩
abbrev S1x16 : Shape := ⟨2, ![1, 16]⟩
abbrev S1x1x16 : Shape := ⟨3, ![1, 1, 16]⟩
abbrev S256x128 : Shape := ⟨2, ![256, 128]⟩
abbrev S256x256 : Shape := ⟨2, ![256, 256]⟩
abbrev S1x256 : Shape := ⟨2, ![1, 256]⟩
abbrev S8x256 : Shape := ⟨2, ![8, 256]⟩
abbrev S64x256 : Shape := ⟨2, ![64, 256]⟩
abbrev S1x64x256 : Shape := ⟨3, ![1, 64, 256]⟩
abbrev S8x8x256 : Shape := ⟨3, ![8, 8, 256]⟩
abbrev S256 : Shape := ⟨1, ![256]⟩
abbrev S128x256 : Shape := ⟨2, ![128, 256]⟩
abbrev S1x256x256 : Shape := ⟨3, ![1, 256, 256]⟩
abbrev S32x8x256 : Shape := ⟨3, ![32, 8, 256]⟩
abbrev S1x256x128 : Shape := ⟨3, ![1, 256, 128]⟩
abbrev S512x128 : Shape := ⟨2, ![512, 128]⟩
abbrev S512x256 : Shape := ⟨2, ![512, 256]⟩
abbrev S768x128 : Shape := ⟨2, ![768, 128]⟩
abbrev S768x256 : Shape := ⟨2, ![768, 256]⟩
abbrev S1024x128 : Shape := ⟨2, ![1024, 128]⟩
abbrev S1024x256 : Shape := ⟨2, ![1024, 256]⟩
abbrev S1280x128 : Shape := ⟨2, ![1280, 128]⟩
abbrev S1280x256 : Shape := ⟨2, ![1280, 256]⟩
abbrev S1536x128 : Shape := ⟨2, ![1536, 128]⟩
abbrev S1536x256 : Shape := ⟨2, ![1536, 256]⟩
abbrev S1792x128 : Shape := ⟨2, ![1792, 128]⟩
abbrev S1792x256 : Shape := ⟨2, ![1792, 256]⟩
abbrev S2048x256 : Shape := ⟨2, ![2048, 256]⟩

abbrev nBuf : Space → Nat
  | .hbm => 10
  | .vmem => 25
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S8x2048x1024, .i8⟩
  | .hbm, ⟨5, _⟩ => ⟨S8x8x16, .f32⟩
  | .hbm, ⟨6, _⟩ => ⟨S8x2048x1024, .i8⟩
  | .hbm, ⟨7, _⟩ => ⟨S8x8x32, .f32⟩
  | .hbm, ⟨8, _⟩ => ⟨S8x2048x1024, .fp8e4m3⟩
  | .hbm, ⟨9, _⟩ => ⟨S8x8x128, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .i8⟩
  | .local _ .vmem, ⟨9, _⟩ => ⟨S1x2048x128, .i8⟩
  | .local _ .vmem, ⟨10, _⟩ => ⟨S1x8x16, .f32⟩
  | .local _ .vmem, ⟨11, _⟩ => ⟨S1x8x16, .f32⟩
  | .local _ .vmem, ⟨12, _⟩ => ⟨S1x2048x128, .i8⟩
  | .local _ .vmem, ⟨13, _⟩ => ⟨S1x2048x128, .i8⟩
  | .local _ .vmem, ⟨14, _⟩ => ⟨S1x8x32, .f32⟩
  | .local _ .vmem, ⟨15, _⟩ => ⟨S1x8x32, .f32⟩
  | .local _ .vmem, ⟨16, _⟩ => ⟨S1x2048x128, .fp8e4m3⟩
  | .local _ .vmem, ⟨17, _⟩ => ⟨S1x2048x128, .fp8e4m3⟩
  | .local _ .vmem, ⟨18, _⟩ => ⟨S1x8x128, .f32⟩
  | .local _ .vmem, ⟨19, _⟩ => ⟨S1x8x128, .f32⟩
  | .local _ .vmem, ⟨20, _⟩ => ⟨S2048x128, .bf16⟩
  | .local _ .vmem, ⟨21, _⟩ => ⟨S2048x128, .bf16⟩
  | .local _ .vmem, ⟨22, _⟩ => ⟨S128x2048, .fp8e4m3⟩
  | .local _ .vmem, ⟨23, _⟩ => ⟨S32x128, .f32⟩
  | .local _ .vmem, ⟨24, _⟩ => ⟨S2x2048x256, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def k0_off1 (i : grid0.Coords) : Fin 3 → Nat :=
  let c0_18 : Index := 0#32
  let arg1 : BitVec 32 := BitVec.ofNat 32 (i 1).val
  let v46 : Index := Scalar.indexCast arg1
  let c0_19 : Index := 0#32
  ![0, v46.toNat, 0]
def k0_off2 (i : grid0.Coords) : Fin 3 → Nat :=
  let c0_45 : Index := 0#32
  let arg1 : BitVec 32 := BitVec.ofNat 32 (i 1).val
  let v152 : Index := Scalar.indexCast arg1
  let c0_46 : Index := 0#32
  ![0, v152.toNat, 0]
def k0_off3 (i : grid0.Coords) : Fin 3 → Nat :=
  let c0_63 : Index := 0#32
  let arg1 : BitVec 32 := BitVec.ofNat 32 (i 1).val
  let v193 : Index := Scalar.indexCast arg1
  let c0_64 : Index := 0#32
  ![0, v193.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x2048x1024 : Shape := ⟨3, ![8, 2048, 1024]⟩
abbrev S8x8x16 : Shape := ⟨3, ![8, 8, 16]⟩
abbrev S8x8x32 : Shape := ⟨3, ![8, 8, 32]⟩
abbrev S8x8x128 : Shape := ⟨3, ![8, 8, 128]⟩
abbrev S8x2048x8x128 : Shape := ⟨4, ![8, 2048, 8, 128]⟩
abbrev S8x16x128x8x128 : Shape := ⟨5, ![8, 16, 128, 8, 128]⟩
abbrev S8x16x8x128 : Shape := ⟨4, ![8, 16, 8, 128]⟩
abbrev S8x16x8 : Shape := ⟨3, ![8, 16, 8]⟩
abbrev S8x16x1x8x1 : Shape := ⟨5, ![8, 16, 1, 8, 1]⟩
abbrev S8x1x8x128 : Shape := ⟨4, ![8, 1, 8, 128]⟩
abbrev S8x32x64x8x128 : Shape := ⟨5, ![8, 32, 64, 8, 128]⟩
abbrev S8x32x8x128 : Shape := ⟨4, ![8, 32, 8, 128]⟩
abbrev S8x32x8 : Shape := ⟨3, ![8, 32, 8]⟩
abbrev S8x32x1x8x1 : Shape := ⟨5, ![8, 32, 1, 8, 1]⟩
abbrev S8x8x2048x2048 : Shape := ⟨4, ![8, 8, 2048, 2048]⟩
abbrev S8x8x16x1 : Shape := ⟨4, ![8, 8, 16, 1]⟩
abbrev S8x8x16x128 : Shape := ⟨4, ![8, 8, 16, 128]⟩
abbrev S8x8x2048 : Shape := ⟨3, ![8, 8, 2048]⟩
abbrev S8x8x32x1 : Shape := ⟨4, ![8, 8, 32, 1]⟩
abbrev S8x8x32x64 : Shape := ⟨4, ![8, 8, 32, 64]⟩
abbrev S8x8x2048x1 : Shape := ⟨4, ![8, 8, 2048, 1]⟩
abbrev S8x8x1x2048 : Shape := ⟨4, ![8, 8, 1, 2048]⟩
abbrev S2048x2048 : Shape := ⟨2, ![2048, 2048]⟩
abbrev S1x1x2048x2048 : Shape := ⟨4, ![1, 1, 2048, 2048]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩

abbrev nBuf : Space → Nat
  | .hbm => 10
  | .vmem => 10
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S8x2048x1024, .i8⟩
  | .hbm, ⟨5, _⟩ => ⟨S8x8x16, .f32⟩
  | .hbm, ⟨6, _⟩ => ⟨S8x2048x1024, .i8⟩
  | .hbm, ⟨7, _⟩ => ⟨S8x8x32, .f32⟩
  | .hbm, ⟨8, _⟩ => ⟨S8x2048x1024, .fp8e4m3⟩
  | .hbm, ⟨9, _⟩ => ⟨S8x8x128, .f32⟩
  | .local _ .vmem, ⟨0, _⟩ => ⟨S8x2048x1024, .bf16⟩
  | .local _ .vmem, ⟨1, _⟩ => ⟨S8x2048x1024, .bf16⟩
  | .local _ .vmem, ⟨2, _⟩ => ⟨S8x2048x1024, .bf16⟩
  | .local _ .vmem, ⟨3, _⟩ => ⟨S8x2048x1024, .bf16⟩
  | .local _ .vmem, ⟨4, _⟩ => ⟨S8x2048x1024, .i8⟩
  | .local _ .vmem, ⟨5, _⟩ => ⟨S8x8x16, .f32⟩
  | .local _ .vmem, ⟨6, _⟩ => ⟨S8x2048x1024, .i8⟩
  | .local _ .vmem, ⟨7, _⟩ => ⟨S8x8x32, .f32⟩
  | .local _ .vmem, ⟨8, _⟩ => ⟨S8x2048x1024, .fp8e4m3⟩
  | .local _ .vmem, ⟨9, _⟩ => ⟨S8x8x128, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x1024 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x8x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x2048x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelFrame.Run.lean ====
module

public import proofs.«01_k».proof.Proof.Gen.Kernel.Frame
public import proofs.«01_k».proof.Proof.Gen.Kernel.Skeleton

@[expose] public section

set_option maxRecDepth 16384

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- What the body leaves in the seven results' staging buffers, as lists of writes over the input blocks alone, WITH the
    proof: from the fifteen buffers held whole (inputs at `f2 f3 f4`, the rest at anything) the kernel runs to its return
    and hands the inputs back as they were, the results at their lists, the scratch at something. The lists are found by the run. -/
def kernelRun (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .i8) (harg6 : arg6.IsWhole) (arg7 : Memref sig .tc .vmem S1x8x16 .f32) (harg7 : arg7.IsWhole) (arg8 : Memref sig .tc .vmem S1x2048x128 .i8) (harg8 : arg8.IsWhole) (arg9 : Memref sig .tc .vmem S1x8x32 .f32) (harg9 : arg9.IsWhole) (arg10 : Memref sig .tc .vmem S1x2048x128 .fp8e4m3) (harg10 : arg10.IsWhole) (arg11 : Memref sig .tc .vmem S1x8x128 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S128x2048 .fp8e4m3) (harg14 : arg14.IsWhole) (arg15 : Memref sig .tc .vmem S32x128 .f32) (harg15 : arg15.IsWhole) (arg16 : Memref sig .tc .vmem S2x2048x256 .f32) (harg16 : arg16.IsWhole)
    (f2 : Bf F c arg2) (f3 : Bf F c arg3) (f4 : Bf F c arg4) :
    { W : List (View.Piece (Elt F) S1x2048x128 .bf16) × List (View.Piece (Elt F) S1x2048x128 .i8) × List (View.Piece (Elt F) S1x8x16 .f32) × List (View.Piece (Elt F) S1x2048x128 .i8) × List (View.Piece (Elt F) S1x8x32 .f32) × List (View.Piece (Elt F) S1x2048x128 .fp8e4m3) × List (View.Piece (Elt F) S1x8x128 .f32) //
      ∀ (f5 : Bf F c arg5) (f6 : Bf F c arg6) (f7 : Bf F c arg7) (f8 : Bf F c arg8) (f9 : Bf F c arg9) (f10 : Bf F c arg10) (f11 : Bf F c arg11) (f12 : Bf F c arg12) (f13 : Bf F c arg13) (f14 : Bf F c arg14) (f15 : Bf F c arg15) (f16 : Bf F c arg16) (E : Set ℕ) (Q : PUnit → sProp 𝕄),
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
        ∗ (iprop(pt c arg2 f2 ∗ pt c arg3 f3 ∗ pt c arg4 f4 ∗ pt c arg5 (arg5.view.writes (Elt F) arg5.view.junk W.1) ∗ pt c arg6 (arg6.view.writes (Elt F) arg6.view.junk W.2.1) ∗ pt c arg7 (arg7.view.writes (Elt F) f7 W.2.2.1) ∗ pt c arg8 (arg8.view.writes (Elt F) arg8.view.junk W.2.2.2.1) ∗ pt c arg9 (arg9.view.writes (Elt F) f9 W.2.2.2.2.1) ∗ pt c arg10 (arg10.view.writes (Elt F) arg10.view.junk W.2.2.2.2.2.1) ∗ pt c arg11 (arg11.view.writes (Elt F) f11 W.2.2.2.2.2.2)
            ∗ (∃ f, pt c arg12 f) ∗ (∃ f, pt c arg13 f) ∗ (∃ f, pt c arg14 f) ∗ (∃ f, pt c arg15 f) ∗ (∃ f, pt c arg16 f)) -∗ Q ⟨⟩))
      ⊢ wp frame (wpE (defs₀ (F := F)) Variants.none c none) E (cc0_sage_prefill i arg2 harg2 arg3 harg3 arg4 harg4 arg5 harg5 arg6 harg6 arg7 harg7 arg8 harg8 arg9 harg9 arg10 harg10 arg11 harg11 arg12 harg12 arg13 harg13 arg14 harg14 arg15 harg15 arg16 harg16) Q } := by
  refine ⟨⟨?_, ?_, ?_, ?_, ?_, ?_, ?_⟩, fun f5 f6 f7 f8 f9 f10 f11 f12 f13 f14 f15 f16 E Q => ?run⟩
  case run =>
    iintro ⟨H2, H3, H4, H5, H6, H7, H8, H9, H10, H11, H12, H13, H14, H15, H16, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    iexists _; iexact H16

end Cert.Kernel.Val

end
-- ==== Proof.KernelFrame.Body.lean ====
module

public import proofs.«01_k».proof.Proof.KernelFrame.Run
public import proofs.«01_k».proof.Proof.Gen.Kernel.Launch
public import proofs.«01_k».proof.Proof.Gen.Kernel.Points
public import Idealize.ShloMosaic.Lib.Pipeline.FrameBody
public import Idealize.ShloMosaic.Lib.Pipeline.DatRel
public import Idealize.ShloMosaic.Lib.Pipeline.ArrRel
public import Idealize.ShloMosaic.Lib.Claim

@[expose] public section

set_option maxRecDepth 16384

noncomputable section

/-! The kernel's launch. The pipeline's proof data name the three inputs' blocks exactly and hold each of the seven results'
    staging buffers to a predicate `Rl` of the grid point; what the predicate has to satisfy is `Leaves`. -/

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, and its wholeness. -/
abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x128 .f32 := win0_9.stage (cfg0.slots t 9)
abbrev hs0_9 (t : Fin cfg0.N) : (ms0_9 t).IsWhole := hstage0_9 ((cfg0.slots t 9).cast nbuf0_9)
/-- The scratch operands: whole buffers of the kernel's own. -/
abbrev scM0_0 : Memref sig .tc .vmem S2048x128 .bf16 := Memref.whole cc0_scratch0
abbrev scM0_1 : Memref sig .tc .vmem S2048x128 .bf16 := Memref.whole cc0_scratch1
abbrev scM0_2 : Memref sig .tc .vmem S128x2048 .fp8e4m3 := Memref.whole cc0_scratch2
abbrev scM0_3 : Memref sig .tc .vmem S32x128 .f32 := Memref.whole cc0_scratch3
abbrev scM0_4 : Memref sig .tc .vmem S2x2048x256 .f32 := Memref.whole cc0_scratch4

/-- The invariant beside the windows, with the scratch operands as memrefs owned at some contents. -/
theorem PhiA0_eq (c : Dev nD) :
    (Pipeline.ΦA spec0 c : sProp 𝕄)
      = iprop(iprop((∃ f, pt (F := F) c scM0_0 f) ∗ (∃ f, pt (F := F) c scM0_1 f) ∗ (∃ f, pt (F := F) c scM0_2 f) ∗ (∃ f, pt (F := F) c scM0_3 f) ∗ (∃ f, pt (F := F) c scM0_4 f)) ∗ ∃ r, prngReg c r) := by
  unfold Pipeline.ΦA; rw [scopedRest0_eq]

/-- A whole memref owned at contents `X` is its buffer held at the contents that read `X`, and back. -/
theorem owns_pt (c : Dev nD) {sp : Space} {S : Shape} {e : EltTy} {M : Memref sig .tc sp S e} (h : M.IsWhole) (X : S.Idx → Elt F e) :
    (owns (c : Thread nD τ) M fullShare X : sProp 𝕄) ⊢ pt c M (h.unread X) := by
  unfold owns
  iintro ⟨%f, %hf, H⟩
  obtain rfl := h.eq_unread hf
  rw [h.set_eq_univ]
  iexact H
theorem pt_owns (c : Dev nD) {sp : Space} {S : Shape} {e : EltTy} {M : Memref sig .tc sp S e} (h : M.IsWhole) (f : Bf F c M) :
    pt c M f ⊢ (owns (c : Thread nD τ) M fullShare (M.view.read (Elt F) f) : sProp 𝕄) := by
  unfold owns
  iintro H
  iexists f
  isplitr
  · ipureintro; rfl
  rw [h.set_eq_univ]
  iexact H

/-- The run of the body at point `t`, on its staging memrefs and the input blocks `x k v`. -/
abbrev runAt (c : Dev nD) (t : Fin cfg0.N) (x k v : S1x2048x128.Idx → Elt F .bf16) :=
  kernelRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _)
    ((hs0_0 t).unread x) ((hs0_1 t).unread k) ((hs0_2 t).unread v)

/-- A predicate on what the body leaves in each window's staging buffer at each point. -/
abbrev Rel (F : FTy → Type) : Type := (w : Fin cfg0.W) → Fin cfg0.N → ((cfg0.win w).block.Idx → Elt F (cfg0.win w).elt) → Prop

/-- The outputs: the windows held to a predicate rather than named. -/
def outs : Fin 10 → Bool := fun w => 3 ≤ w.val

/-- The proof data: the arrays as the region finds them, the inputs' buffers left at their blocks. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m c).A w = V m c (Pipeline.arrRef spec0 w) := by dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d
theorem before0_2 (c : Dev nD) (t : Fin cfg0.N) (d) : (dats m c).before 2 t d = iblk m c 2 t :=
  before0_2_of m (dats m c) (A_eq m c 2) (after0_2 m c) t d

variable (Rl : Rel F)

/-- The proof data with the outputs held to `Rl`. -/
abbrev rdats (c : Dev nD) : Pipeline.RDat τ (Elt F) Unit ℕ (UR sig nD τ) ℕ cfg0 c := (dats m c).toRRel outs Rl

/-- What `Rl` has to satisfy on core `c`: the run's list of writes, over junk (results written whole) or over any contents the
    window may hold when the body starts (results written one row per point), meets it. -/
structure Leaves (c : Dev nD) : Prop where
  o3 : ∀ t, Rl 3 t (View.canon (runAt c t (iblk m c 0 t) (iblk m c 1 t) (iblk m c 2 t)).1.1)
  o4 : ∀ t, Rl 4 t (View.canon (runAt c t (iblk m c 0 t) (iblk m c 1 t) (iblk m c 2 t)).1.2.1)
  o5 : ∀ t Y, (rdats m Rl c).Finds 5 t Y → Rl 5 t ((ms0_5 t).view.read (Elt F) ((ms0_5 t).view.writes (Elt F) ((hs0_5 t).unread Y) (runAt c t (iblk m c 0 t) (iblk m c 1 t) (iblk m c 2 t)).1.2.2.1))
  o6 : ∀ t, Rl 6 t (View.canon (runAt c t (iblk m c 0 t) (iblk m c 1 t) (iblk m c 2 t)).1.2.2.2.1)
  o7 : ∀ t Y, (rdats m Rl c).Finds 7 t Y → Rl 7 t ((ms0_7 t).view.read (Elt F) ((ms0_7 t).view.writes (Elt F) ((hs0_7 t).unread Y) (runAt c t (iblk m c 0 t) (iblk m c 1 t) (iblk m c 2 t)).1.2.2.2.2.1))
  o8 : ∀ t, Rl 8 t (View.canon (runAt c t (iblk m c 0 t) (iblk m c 1 t) (iblk m c 2 t)).1.2.2.2.2.2.1)
  o9 : ∀ t Y, (rdats m Rl c).Finds 9 t Y → Rl 9 t ((ms0_9 t).view.read (Elt F) ((ms0_9 t).view.writes (Elt F) ((hs0_9 t).unread Y) (runAt c t (iblk m c 0 t) (iblk m c 1 t) (iblk m c 2 t)).1.2.2.2.2.2.2))

/-- What the body is called with at point `t`, -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ Y, ⌜(rdats m Rl c).Finds 3 t Y⌝ ∗ owns (c : Thread nD τ) (ms0_3 t) fullShare Y)
    ∗ (∃ Y, ⌜(rdats m Rl c).Finds 4 t Y⌝ ∗ owns (c : Thread nD τ) (ms0_4 t) fullShare Y)
    ∗ (∃ Y, ⌜(rdats m Rl c).Finds 5 t Y⌝ ∗ owns (c : Thread nD τ) (ms0_5 t) fullShare Y)
    ∗ (∃ Y, ⌜(rdats m Rl c).Finds 6 t Y⌝ ∗ owns (c : Thread nD τ) (ms0_6 t) fullShare Y)
    ∗ (∃ Y, ⌜(rdats m Rl c).Finds 7 t Y⌝ ∗ owns (c : Thread nD τ) (ms0_7 t) fullShare Y)
    ∗ (∃ Y, ⌜(rdats m Rl c).Finds 8 t Y⌝ ∗ owns (c : Thread nD τ) (ms0_8 t) fullShare Y)
    ∗ (∃ Y, ⌜(rdats m Rl c).Finds 9 t Y⌝ ∗ owns (c : Thread nD τ) (ms0_9 t) fullShare Y))

/-- and what it returns. -/
def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ (∃ X, ⌜Rl 3 t X⌝ ∗ owns (c : Thread nD τ) (ms0_3 t) fullShare X)
    ∗ (∃ X, ⌜Rl 4 t X⌝ ∗ owns (c : Thread nD τ) (ms0_4 t) fullShare X)
    ∗ (∃ X, ⌜Rl 5 t X⌝ ∗ owns (c : Thread nD τ) (ms0_5 t) fullShare X)
    ∗ (∃ X, ⌜Rl 6 t X⌝ ∗ owns (c : Thread nD τ) (ms0_6 t) fullShare X)
    ∗ (∃ X, ⌜Rl 7 t X⌝ ∗ owns (c : Thread nD τ) (ms0_7 t) fullShare X)
    ∗ (∃ X, ⌜Rl 8 t X⌝ ∗ owns (c : Thread nD τ) (ms0_8 t) fullShare X)
    ∗ (∃ X, ⌜Rl 9 t X⌝ ∗ owns (c : Thread nD τ) (ms0_9 t) fullShare X))

set_option maxHeartbeats 1600000 in
/-- The body at any point. -/
theorem sound_body (c : Dev nD) (hL : Leaves m Rl c) (t : Fin cfg0.N) :
    bodyPre m Rl c t ⊢ wp frame (wpE (defs₀ (F := F)) Variants.none c none) Set.univ (bodyAt0 t) (fun _ => bodyPost m Rl c t) := by
  unfold bodyPre bodyPost bodyAt0
  simp only [before0_0, before0_1, before0_2]
  rw [show (dats m c).Φ t.succ = (dats m c).Φ t.castSucc from rfl,
    show (dats m c).owesAt () t.succ = (dats m c).owesAt () t.castSucc from rfl,
    after0_0, after0_1, after0_2]
  rw [show (dats m c).Φ t.castSucc = Pipeline.ΦA spec0 c from rfl, PhiA0_eq]
  iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%Y3, %hY3, H3⟩, ⟨%Y4, %hY4, H4⟩, ⟨%Y5, %hY5, H5⟩, ⟨%Y6, %hY6, H6⟩, ⟨%Y7, %hY7, H7⟩, ⟨%Y8, %hY8, H8⟩, ⟨%Y9, %hY9, H9⟩⟩
  ihave H0 := owns_pt c (hs0_0 t) (iblk m c 0 t) $$ H0
  ihave H1 := owns_pt c (hs0_1 t) (iblk m c 1 t) $$ H1
  ihave H2 := owns_pt c (hs0_2 t) (iblk m c 2 t) $$ H2
  ihave H3 := owns_pt c (hs0_3 t) Y3 $$ H3
  ihave H4 := owns_pt c (hs0_4 t) Y4 $$ H4
  ihave H5 := owns_pt c (hs0_5 t) Y5 $$ H5
  ihave H6 := owns_pt c (hs0_6 t) Y6 $$ H6
  ihave H7 := owns_pt c (hs0_7 t) Y7 $$ H7
  ihave H8 := owns_pt c (hs0_8 t) Y8 $$ H8
  ihave H9 := owns_pt c (hs0_9 t) Y9 $$ H9
  iapply ((runAt c t (iblk m c 0 t) (iblk m c 1 t) (iblk m c 2 t)).2 ((hs0_3 t).unread Y3) ((hs0_4 t).unread Y4) ((hs0_5 t).unread Y5) ((hs0_6 t).unread Y6) ((hs0_7 t).unread Y7) ((hs0_8 t).unread Y8) ((hs0_9 t).unread Y9) s0 s1 s2 s3 s4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]
  · ihave H0 := pt_owns c (hs0_0 t) _ $$ H0
    rw [(hs0_0 t).read_unread]; iexact H0
  isplitl [H1]
  · ihave H1 := pt_owns c (hs0_1 t) _ $$ H1
    rw [(hs0_1 t).read_unread]; iexact H1
  isplitl [H2]
  · ihave H2 := pt_owns c (hs0_2 t) _ $$ H2
    rw [(hs0_2 t).read_unread]; iexact H2
  isplitl [H3]
  · ihave H3 := pt_owns c (hs0_3 t) _ $$ H3
    iexists _; isplitr; swap; · iexact H3
    ipureintro; exact by rw [View.read_writes_junk_eq_canon]; exact hL.o3 t
  isplitl [H4]
  · ihave H4 := pt_owns c (hs0_4 t) _ $$ H4
    iexists _; isplitr; swap; · iexact H4
    ipureintro; exact by rw [View.read_writes_junk_eq_canon]; exact hL.o4 t
  isplitl [H5]
  · ihave H5 := pt_owns c (hs0_5 t) _ $$ H5
    iexists _; isplitr; swap; · iexact H5
    ipureintro; exact hL.o5 t Y5 hY5
  isplitl [H6]
  · ihave H6 := pt_owns c (hs0_6 t) _ $$ H6
    iexists _; isplitr; swap; · iexact H6
    ipureintro; exact by rw [View.read_writes_junk_eq_canon]; exact hL.o6 t
  isplitl [H7]
  · ihave H7 := pt_owns c (hs0_7 t) _ $$ H7
    iexists _; isplitr; swap; · iexact H7
    ipureintro; exact hL.o7 t Y7 hY7
  isplitl [H8]
  · ihave H8 := pt_owns c (hs0_8 t) _ $$ H8
    iexists _; isplitr; swap; · iexact H8
    ipureintro; exact by rw [View.read_writes_junk_eq_canon]; exact hL.o8 t
  ihave H9 := pt_owns c (hs0_9 t) _ $$ H9
  iexists _; isplitr; swap; · iexact H9
  ipureintro; exact hL.o9 t Y9 hY9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) (hL : Leaves m Rl c) :
    BodyObligationRel (dats (F := F) m c) (defs₀ (F := F)) Variants.none () Set.univ outs Rl := fun t => by
  rw [bigSep_W0, bigSep_W0, defs₀_row]
  exact triple_restated (sound_body m Rl c hL t) rfl .rfl fun _ => .rfl

set_option backward.isDefEq.respectTransparency.types false in
/-- The launch: every fair execution ends, with the arrays as the relational proof data have them and every counter at zero. -/
theorem run_main (hL : ∀ c, Leaves m Rl c) :
    θ_run defs (onTc (τ := τ) (main (F := F))) (s₀ m ρ) (fun r => (Pipeline.RDat.FramePost (cfgs 0) (rdats m Rl) (V m)) r ∧ r.2.sem = fun _ => 0) :=
  Pipeline.RDat.θ_run_frame_track (Q' := _) cfgs (0 : Fin 1) launch0 defs₀ Variants.none (rdats m Rl) m ρ main
    (hbody := fun c => (body_obligation m Rl c (hL c)).toRRel) (hshare := fun c => (dats m c).share_full fun _ => rfl)
    (howed := fun _ _ => rfl) (V := V m) (hmain := hmain m Variants.none) (hA := A_eq m)
    (hin := fun _ => .rfl) (hout := fun _ => .rfl)

/-- The frame: the argument arrays end unchanged. -/
theorem unchanged_of {r : PUnit × MemSt nD τ sig (Elt F)} (h : Pipeline.RDat.FramePost (cfgs 0) (rdats m Rl) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(Pipeline.RDat.FramePost.arr_in h c 0 rfl).trans ((A_eq m c 0).trans (V_main_arg0 m c)),
   (Pipeline.RDat.FramePost.arr_in h c 1 rfl).trans ((A_eq m c 1).trans (V_main_arg1 m c)),
   (Pipeline.RDat.FramePost.arr_in h c 2 rfl).trans ((A_eq m c 2).trans (V_main_arg2 m c))⟩

/-- The frame claim, at the predicate that holds of everything. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨unchanged_of m _ h.1, h.2⟩)
    (run_main m ρ (fun _ _ _ => True) fun _ => ⟨fun _ => trivial, fun _ => trivial, fun _ _ _ => trivial, fun _ => trivial,
      fun _ _ _ => trivial, fun _ => trivial, fun _ _ _ => trivial⟩)

end Cert.Kernel.Val

end
-- ==== Proof.Run.lean ====
module

public import proofs.«01_k».proof.Proof.Gen.KernelIdeal.Frame
public import proofs.«01_k».proof.Proof.Gen.KernelIdeal.Skeleton

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Memref `M`'s buffer on core `c`: its contents type, and it held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- What the body leaves in the seven results' staging buffers, as lists of writes over the input blocks alone, WITH the
    proof: from the fifteen buffers held whole (inputs at `f2 f3 f4`, the rest at anything) the kernel runs to its return
    and hands the inputs back as they were, the results at their lists, the scratch at something. The lists are found by the run. -/
def kernelRun (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .i8) (harg6 : arg6.IsWhole) (arg7 : Memref sig .tc .vmem S1x8x16 .f32) (harg7 : arg7.IsWhole) (arg8 : Memref sig .tc .vmem S1x2048x128 .i8) (harg8 : arg8.IsWhole) (arg9 : Memref sig .tc .vmem S1x8x32 .f32) (harg9 : arg9.IsWhole) (arg10 : Memref sig .tc .vmem S1x2048x128 .fp8e4m3) (harg10 : arg10.IsWhole) (arg11 : Memref sig .tc .vmem S1x8x128 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S128x2048 .fp8e4m3) (harg14 : arg14.IsWhole) (arg15 : Memref sig .tc .vmem S32x128 .f32) (harg15 : arg15.IsWhole) (arg16 : Memref sig .tc .vmem S2x2048x256 .f32) (harg16 : arg16.IsWhole)
    (f2 : Bf F c arg2) (f3 : Bf F c arg3) (f4 : Bf F c arg4) :
    { W : List (View.Piece (Elt F) S1x2048x128 .bf16) × List (View.Piece (Elt F) S1x2048x128 .i8) × List (View.Piece (Elt F) S1x8x16 .f32) × List (View.Piece (Elt F) S1x2048x128 .i8) × List (View.Piece (Elt F) S1x8x32 .f32) × List (View.Piece (Elt F) S1x2048x128 .fp8e4m3) × List (View.Piece (Elt F) S1x8x128 .f32) //
      ∀ (f5 : Bf F c arg5) (f6 : Bf F c arg6) (f7 : Bf F c arg7) (f8 : Bf F c arg8) (f9 : Bf F c arg9) (f10 : Bf F c arg10) (f11 : Bf F c arg11) (f12 : Bf F c arg12) (f13 : Bf F c arg13) (f14 : Bf F c arg14) (f15 : Bf F c arg15) (f16 : Bf F c arg16) (E : Set ℕ) (Q : PUnit → sProp 𝕄),
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16
        ∗ (iprop(pt c arg2 f2 ∗ pt c arg3 f3 ∗ pt c arg4 f4 ∗ pt c arg5 (arg5.view.writes (Elt F) arg5.view.junk W.1) ∗ pt c arg6 (arg6.view.writes (Elt F) arg6.view.junk W.2.1) ∗ pt c arg7 (arg7.view.writes (Elt F) f7 W.2.2.1) ∗ pt c arg8 (arg8.view.writes (Elt F) arg8.view.junk W.2.2.2.1) ∗ pt c arg9 (arg9.view.writes (Elt F) f9 W.2.2.2.2.1) ∗ pt c arg10 (arg10.view.writes (Elt F) arg10.view.junk W.2.2.2.2.2.1) ∗ pt c arg11 (arg11.view.writes (Elt F) f11 W.2.2.2.2.2.2)
            ∗ (∃ f, pt c arg12 f) ∗ (∃ f, pt c arg13 f) ∗ (∃ f, pt c arg14 f) ∗ (∃ f, pt c arg15 f) ∗ (∃ f, pt c arg16 f)) -∗ Q ⟨⟩))
      ⊢ wp frame (wpE (defs₀ (F := F)) Variants.none c none) E (cc0_sage_prefill i arg2 harg2 arg3 harg3 arg4 harg4 arg5 harg5 arg6 harg6 arg7 harg7 arg8 harg8 arg9 harg9 arg10 harg10 arg11 harg11 arg12 harg12 arg13 harg13 arg14 harg14 arg15 harg15 arg16 harg16) Q } := by
  refine ⟨⟨?_, ?_, ?_, ?_, ?_, ?_, ?_⟩, fun f5 f6 f7 f8 f9 f10 f11 f12 f13 f14 f15 f16 E Q => ?run⟩
  case run =>
    iintro ⟨H2, H3, H4, H5, H6, H7, H8, H9, H10, H11, H12, H13, H14, H15, H16, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    iexists _; iexact H16

end Cert.KernelIdeal.Val

end
-- ==== Proof.Body.lean ====
module

public import proofs.«01_k».proof.Proof.Run
public import proofs.«01_k».proof.Proof.Gen.KernelIdeal.Launch
public import proofs.«01_k».proof.Proof.Gen.KernelIdeal.Points
public import Idealize.ShloMosaic.Lib.Pipeline.FrameBody
public import Idealize.ShloMosaic.Lib.Pipeline.DatRel
public import Idealize.ShloMosaic.Lib.Pipeline.ArrRel
public import Idealize.ShloMosaic.Lib.Claim

@[expose] public section

set_option maxRecDepth 16384

noncomputable section

/-! The kernel's launch. The pipeline's proof data name the three inputs' blocks exactly and hold each of the seven results'
    staging buffers to a predicate `Rl` of the grid point; what the predicate has to satisfy is `Leaves`. -/

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's current staging memref at point `t`, and its wholeness. -/
abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x128 .f32 := win0_9.stage (cfg0.slots t 9)
abbrev hs0_9 (t : Fin cfg0.N) : (ms0_9 t).IsWhole := hstage0_9 ((cfg0.slots t 9).cast nbuf0_9)
/-- The scratch operands: whole buffers of the kernel's own. -/
abbrev scM0_0 : Memref sig .tc .vmem S2048x128 .bf16 := Memref.whole cc0_scratch0
abbrev scM0_1 : Memref sig .tc .vmem S2048x128 .bf16 := Memref.whole cc0_scratch1
abbrev scM0_2 : Memref sig .tc .vmem S128x2048 .fp8e4m3 := Memref.whole cc0_scratch2
abbrev scM0_3 : Memref sig .tc .vmem S32x128 .f32 := Memref.whole cc0_scratch3
abbrev scM0_4 : Memref sig .tc .vmem S2x2048x256 .f32 := Memref.whole cc0_scratch4

/-- The invariant beside the windows, with the scratch operands as memrefs owned at some contents. -/
theorem PhiA0_eq (c : Dev nD) :
    (Pipeline.ΦA spec0 c : sProp 𝕄)
      = iprop(iprop((∃ f, pt (F := F) c scM0_0 f) ∗ (∃ f, pt (F := F) c scM0_1 f) ∗ (∃ f, pt (F := F) c scM0_2 f) ∗ (∃ f, pt (F := F) c scM0_3 f) ∗ (∃ f, pt (F := F) c scM0_4 f)) ∗ ∃ r, prngReg c r) := by
  unfold Pipeline.ΦA; rw [scopedRest0_eq]

/-- A whole memref owned at contents `X` is its buffer held at the contents that read `X`, and back. -/
theorem owns_pt (c : Dev nD) {sp : Space} {S : Shape} {e : EltTy} {M : Memref sig .tc sp S e} (h : M.IsWhole) (X : S.Idx → Elt F e) :
    (owns (c : Thread nD τ) M fullShare X : sProp 𝕄) ⊢ pt c M (h.unread X) := by
  unfold owns
  iintro ⟨%f, %hf, H⟩
  obtain rfl := h.eq_unread hf
  rw [h.set_eq_univ]
  iexact H
theorem pt_owns (c : Dev nD) {sp : Space} {S : Shape} {e : EltTy} {M : Memref sig .tc sp S e} (h : M.IsWhole) (f : Bf F c M) :
    pt c M f ⊢ (owns (c : Thread nD τ) M fullShare (M.view.read (Elt F) f) : sProp 𝕄) := by
  unfold owns
  iintro H
  iexists f
  isplitr
  · ipureintro; rfl
  rw [h.set_eq_univ]
  iexact H

/-- The run of the body at point `t`, on its staging memrefs and the input blocks `x k v`. -/
abbrev runAt (c : Dev nD) (t : Fin cfg0.N) (x k v : S1x2048x128.Idx → Elt F .bf16) :=
  kernelRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _)
    ((hs0_0 t).unread x) ((hs0_1 t).unread k) ((hs0_2 t).unread v)

/-- A predicate on what the body leaves in each window's staging buffer at each point. -/
abbrev Rel (F : FTy → Type) : Type := (w : Fin cfg0.W) → Fin cfg0.N → ((cfg0.win w).block.Idx → Elt F (cfg0.win w).elt) → Prop

/-- The outputs: the windows held to a predicate rather than named. -/
def outs : Fin 10 → Bool := fun w => 3 ≤ w.val

/-- The proof data: the arrays as the region finds them, the inputs' buffers left at their blocks. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m c).A w = V m c (Pipeline.arrRef spec0 w) := by dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d
theorem before0_2 (c : Dev nD) (t : Fin cfg0.N) (d) : (dats m c).before 2 t d = iblk m c 2 t :=
  before0_2_of m (dats m c) (A_eq m c 2) (after0_2 m c) t d

variable (Rl : Rel F)

/-- The proof data with the outputs held to `Rl`. -/
abbrev rdats (c : Dev nD) : Pipeline.RDat τ (Elt F) Unit ℕ (UR sig nD τ) ℕ cfg0 c := (dats m c).toRRel outs Rl

/-- What `Rl` has to satisfy on core `c`: the run's list of writes, over junk (results written whole) or over any contents the
    window may hold when the body starts (results written one row per point), meets it. -/
structure Leaves (c : Dev nD) : Prop where
  o3 : ∀ t, Rl 3 t (View.canon (runAt c t (iblk m c 0 t) (iblk m c 1 t) (iblk m c 2 t)).1.1)
  o4 : ∀ t, Rl 4 t (View.canon (runAt c t (iblk m c 0 t) (iblk m c 1 t) (iblk m c 2 t)).1.2.1)
  o5 : ∀ t Y, (rdats m Rl c).Finds 5 t Y → Rl 5 t ((ms0_5 t).view.read (Elt F) ((ms0_5 t).view.writes (Elt F) ((hs0_5 t).unread Y) (runAt c t (iblk m c 0 t) (iblk m c 1 t) (iblk m c 2 t)).1.2.2.1))
  o6 : ∀ t, Rl 6 t (View.canon (runAt c t (iblk m c 0 t) (iblk m c 1 t) (iblk m c 2 t)).1.2.2.2.1)
  o7 : ∀ t Y, (rdats m Rl c).Finds 7 t Y → Rl 7 t ((ms0_7 t).view.read (Elt F) ((ms0_7 t).view.writes (Elt F) ((hs0_7 t).unread Y) (runAt c t (iblk m c 0 t) (iblk m c 1 t) (iblk m c 2 t)).1.2.2.2.2.1))
  o8 : ∀ t, Rl 8 t (View.canon (runAt c t (iblk m c 0 t) (iblk m c 1 t) (iblk m c 2 t)).1.2.2.2.2.2.1)
  o9 : ∀ t Y, (rdats m Rl c).Finds 9 t Y → Rl 9 t ((ms0_9 t).view.read (Elt F) ((ms0_9 t).view.writes (Elt F) ((hs0_9 t).unread Y) (runAt c t (iblk m c 0 t) (iblk m c 1 t) (iblk m c 2 t)).1.2.2.2.2.2.2))

/-- What the body is called with at point `t`, -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ Y, ⌜(rdats m Rl c).Finds 3 t Y⌝ ∗ owns (c : Thread nD τ) (ms0_3 t) fullShare Y)
    ∗ (∃ Y, ⌜(rdats m Rl c).Finds 4 t Y⌝ ∗ owns (c : Thread nD τ) (ms0_4 t) fullShare Y)
    ∗ (∃ Y, ⌜(rdats m Rl c).Finds 5 t Y⌝ ∗ owns (c : Thread nD τ) (ms0_5 t) fullShare Y)
    ∗ (∃ Y, ⌜(rdats m Rl c).Finds 6 t Y⌝ ∗ owns (c : Thread nD τ) (ms0_6 t) fullShare Y)
    ∗ (∃ Y, ⌜(rdats m Rl c).Finds 7 t Y⌝ ∗ owns (c : Thread nD τ) (ms0_7 t) fullShare Y)
    ∗ (∃ Y, ⌜(rdats m Rl c).Finds 8 t Y⌝ ∗ owns (c : Thread nD τ) (ms0_8 t) fullShare Y)
    ∗ (∃ Y, ⌜(rdats m Rl c).Finds 9 t Y⌝ ∗ owns (c : Thread nD τ) (ms0_9 t) fullShare Y))

/-- and what it returns. -/
def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ (∃ X, ⌜Rl 3 t X⌝ ∗ owns (c : Thread nD τ) (ms0_3 t) fullShare X)
    ∗ (∃ X, ⌜Rl 4 t X⌝ ∗ owns (c : Thread nD τ) (ms0_4 t) fullShare X)
    ∗ (∃ X, ⌜Rl 5 t X⌝ ∗ owns (c : Thread nD τ) (ms0_5 t) fullShare X)
    ∗ (∃ X, ⌜Rl 6 t X⌝ ∗ owns (c : Thread nD τ) (ms0_6 t) fullShare X)
    ∗ (∃ X, ⌜Rl 7 t X⌝ ∗ owns (c : Thread nD τ) (ms0_7 t) fullShare X)
    ∗ (∃ X, ⌜Rl 8 t X⌝ ∗ owns (c : Thread nD τ) (ms0_8 t) fullShare X)
    ∗ (∃ X, ⌜Rl 9 t X⌝ ∗ owns (c : Thread nD τ) (ms0_9 t) fullShare X))

set_option maxHeartbeats 1600000 in
/-- The body at any point. -/
theorem sound_body (c : Dev nD) (hL : Leaves m Rl c) (t : Fin cfg0.N) :
    bodyPre m Rl c t ⊢ wp frame (wpE (defs₀ (F := F)) Variants.none c none) Set.univ (bodyAt0 t) (fun _ => bodyPost m Rl c t) := by
  unfold bodyPre bodyPost bodyAt0
  simp only [before0_0, before0_1, before0_2]
  rw [show (dats m c).Φ t.succ = (dats m c).Φ t.castSucc from rfl,
    show (dats m c).owesAt () t.succ = (dats m c).owesAt () t.castSucc from rfl,
    after0_0, after0_1, after0_2]
  rw [show (dats m c).Φ t.castSucc = Pipeline.ΦA spec0 c from rfl, PhiA0_eq]
  iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%Y3, %hY3, H3⟩, ⟨%Y4, %hY4, H4⟩, ⟨%Y5, %hY5, H5⟩, ⟨%Y6, %hY6, H6⟩, ⟨%Y7, %hY7, H7⟩, ⟨%Y8, %hY8, H8⟩, ⟨%Y9, %hY9, H9⟩⟩
  ihave H0 := owns_pt c (hs0_0 t) (iblk m c 0 t) $$ H0
  ihave H1 := owns_pt c (hs0_1 t) (iblk m c 1 t) $$ H1
  ihave H2 := owns_pt c (hs0_2 t) (iblk m c 2 t) $$ H2
  ihave H3 := owns_pt c (hs0_3 t) Y3 $$ H3
  ihave H4 := owns_pt c (hs0_4 t) Y4 $$ H4
  ihave H5 := owns_pt c (hs0_5 t) Y5 $$ H5
  ihave H6 := owns_pt c (hs0_6 t) Y6 $$ H6
  ihave H7 := owns_pt c (hs0_7 t) Y7 $$ H7
  ihave H8 := owns_pt c (hs0_8 t) Y8 $$ H8
  ihave H9 := owns_pt c (hs0_9 t) Y9 $$ H9
  iapply ((runAt c t (iblk m c 0 t) (iblk m c 1 t) (iblk m c 2 t)).2 ((hs0_3 t).unread Y3) ((hs0_4 t).unread Y4) ((hs0_5 t).unread Y5) ((hs0_6 t).unread Y6) ((hs0_7 t).unread Y7) ((hs0_8 t).unread Y8) ((hs0_9 t).unread Y9) s0 s1 s2 s3 s4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]
  · ihave H0 := pt_owns c (hs0_0 t) _ $$ H0
    rw [(hs0_0 t).read_unread]; iexact H0
  isplitl [H1]
  · ihave H1 := pt_owns c (hs0_1 t) _ $$ H1
    rw [(hs0_1 t).read_unread]; iexact H1
  isplitl [H2]
  · ihave H2 := pt_owns c (hs0_2 t) _ $$ H2
    rw [(hs0_2 t).read_unread]; iexact H2
  isplitl [H3]
  · ihave H3 := pt_owns c (hs0_3 t) _ $$ H3
    iexists _; isplitr; swap; · iexact H3
    ipureintro; exact by rw [View.read_writes_junk_eq_canon]; exact hL.o3 t
  isplitl [H4]
  · ihave H4 := pt_owns c (hs0_4 t) _ $$ H4
    iexists _; isplitr; swap; · iexact H4
    ipureintro; exact by rw [View.read_writes_junk_eq_canon]; exact hL.o4 t
  isplitl [H5]
  · ihave H5 := pt_owns c (hs0_5 t) _ $$ H5
    iexists _; isplitr; swap; · iexact H5
    ipureintro; exact hL.o5 t Y5 hY5
  isplitl [H6]
  · ihave H6 := pt_owns c (hs0_6 t) _ $$ H6
    iexists _; isplitr; swap; · iexact H6
    ipureintro; exact by rw [View.read_writes_junk_eq_canon]; exact hL.o6 t
  isplitl [H7]
  · ihave H7 := pt_owns c (hs0_7 t) _ $$ H7
    iexists _; isplitr; swap; · iexact H7
    ipureintro; exact hL.o7 t Y7 hY7
  isplitl [H8]
  · ihave H8 := pt_owns c (hs0_8 t) _ $$ H8
    iexists _; isplitr; swap; · iexact H8
    ipureintro; exact by rw [View.read_writes_junk_eq_canon]; exact hL.o8 t
  ihave H9 := pt_owns c (hs0_9 t) _ $$ H9
  iexists _; isplitr; swap; · iexact H9
  ipureintro; exact hL.o9 t Y9 hY9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) (hL : Leaves m Rl c) :
    BodyObligationRel (dats (F := F) m c) (defs₀ (F := F)) Variants.none () Set.univ outs Rl := fun t => by
  rw [bigSep_W0, bigSep_W0, defs₀_row]
  exact triple_restated (sound_body m Rl c hL t) rfl .rfl fun _ => .rfl

set_option backward.isDefEq.respectTransparency.types false in
/-- The launch: every fair execution ends, with the arrays as the relational proof data have them and every counter at zero. -/
theorem run_main (hL : ∀ c, Leaves m Rl c) :
    θ_run defs (onTc (τ := τ) (main (F := F))) (s₀ m ρ) (fun r => (Pipeline.RDat.FramePost (cfgs 0) (rdats m Rl) (V m)) r ∧ r.2.sem = fun _ => 0) :=
  Pipeline.RDat.θ_run_frame_track (Q' := _) cfgs (0 : Fin 1) launch0 defs₀ Variants.none (rdats m Rl) m ρ main
    (hbody := fun c => (body_obligation m Rl c (hL c)).toRRel) (hshare := fun c => (dats m c).share_full fun _ => rfl)
    (howed := fun _ _ => rfl) (V := V m) (hmain := hmain m Variants.none) (hA := A_eq m)
    (hin := fun _ => .rfl) (hout := fun _ => .rfl)

/-- The frame: the argument arrays end unchanged. -/
theorem unchanged_of {r : PUnit × MemSt nD τ sig (Elt F)} (h : Pipeline.RDat.FramePost (cfgs 0) (rdats m Rl) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(Pipeline.RDat.FramePost.arr_in h c 0 rfl).trans ((A_eq m c 0).trans (V_main_arg0 m c)),
   (Pipeline.RDat.FramePost.arr_in h c 1 rfl).trans ((A_eq m c 1).trans (V_main_arg1 m c)),
   (Pipeline.RDat.FramePost.arr_in h c 2 rfl).trans ((A_eq m c 2).trans (V_main_arg2 m c))⟩

/-- The frame claim, at the predicate that holds of everything. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨unchanged_of m _ h.1, h.2⟩)
    (run_main m ρ (fun _ _ _ => True) fun _ => ⟨fun _ => trivial, fun _ => trivial, fun _ _ _ => trivial, fun _ => trivial,
      fun _ _ _ => trivial, fun _ => trivial, fun _ _ _ => trivial⟩)

end Cert.KernelIdeal.Val

end
-- ==== Proof.Rolled.lean ====
module

public import proofs.«01_k».proof.Proof.Run
public import Idealize.ShloMosaic.Lib.Pipeline.FrameBody

@[expose] public section

set_option maxRecDepth 16384

noncomputable section

/-! The attention of one block of 256 queries, with the unrolled tiles and chunks of the body rolled up into recursions
    over their number; and that what the run stores for each block is this recursion. -/

namespace Cert.KernelIdeal.Val

open Cert.KernelIdeal Cert.KernelIdeal.Gen
open Idealize.ShloMosaic Idealize.ShloMosaic.TcCoe Idealize.SL.Sem

variable {F : FTy → Type} [FloatOps F] [Named F]

theorem slices_tile {N g : ℕ} (h : 64 * g + 64 ≤ N) : (⟨2, ![N, 256]⟩ : Shape).Slices ![64 * g, 0] S64x256 :=
  ⟨rfl, fun a => by fin_cases a; exacts [h, Nat.le_refl 256]⟩

/-- The tile of keys `64 g …` of a block whose queries start at `q0`: the products `s` scaled by the key group's and the
    queries' scales, and −∞ above the diagonal in the tiles that meet it. -/
def tileV {N : ℕ} (s : FVec F ⟨2, ![N, 256]⟩ .f32) (kl : (g : ℕ) → g < 32 → FVec F S1x256 .f32) (qsl : FVec F S1x256 .f32) (q0 : ℕ)
    (g : ℕ) (hg : g < 32) (h : 64 * g + 64 ≤ N) : FVec F S64x256 .f32 :=
  if 64 * g < q0 then
    mulf (extractStridedSlice S64x256 ![64 * g, 0] s (slices_tile h)) (broadcastTo S64x256 (mulf (kl g hg) qsl) broadcasts_S1x256_S64x256)
  else
    select (cmpi .sge (addi (broadcast S64x256 (BitVec.ofNat 32 q0)) (iota .tc S64x256 32 [1] iota_S64x256_d1_w32))
        (addi (broadcast S64x256 (BitVec.ofNat 32 (64 * g))) (iota .tc S64x256 32 [0] iota_S64x256_d0_w32)))
      (mulf (extractStridedSlice S64x256 ![64 * g, 0] s (slices_tile h)) (broadcastTo S64x256 (mulf (kl g hg) qsl) broadcasts_S1x256_S64x256))
      (broadcast S64x256 (FloatOps.ofBits .f32 0xFF800000#32))

/-- A block's tiles, `G` of them. -/
abbrev Tiles (F : FTy → Type) (G : ℕ) : Type := (g : ℕ) → g < G → FVec F S64x256 .f32

/-- The running maximum, eight rows of it, after `n` tiles. -/
def m8V {G : ℕ} (tl : Tiles F G) : (n : ℕ) → n ≤ G → FVec F S8x256 .f32
  | 0, _ => broadcast S8x256 (FloatOps.ofBits .f32 0xFF800000#32)
  | n + 1, h => maximumf (m8V tl n (Nat.le_of_succ_le h))
      (multiReduction .maximumf [0] S8x256 (shapeCast S8x8x256 (tl n h) shapeCasts_S64x256_S8x8x256) 0xFF800000#32 reduces_S8x8x256_S8x256 (.inl rfl) rfl)

/-- The maximum less eight. -/
def mV (m8 : FVec F S8x256 .f32) : FVec F S1x256 .f32 :=
  subf (shapeCast S1x256 (multiReduction .maximumf [0] S256 m8 0xFF800000#32 reduces_S8x256_S256 (.inl rfl) rfl) shapeCasts_S256_S1x256)
    (broadcast S1x256 (FloatOps.ofBits .f32 0x41000000#32))

theorem inb_tile {b n : ℕ} (hb : b < 2) (hn : n < 32) : ∀ a, (![b, 64 * n, 0] : Fin 3 → Nat) a + S1x64x256.size a ≤ S2x2048x256.size a := by
  intro a; fin_cases a
  · show b + 1 ≤ 2; omega
  · show 64 * n + 64 ≤ 2048; omega
  · show 0 + 256 ≤ 256; omega

theorem inb_chunk {b j : ℕ} (hb : b < 2) (hj : j < 8) : ∀ a, (![b, 256 * j, 0] : Fin 3 → Nat) a + S1x256x256.size a ≤ S2x2048x256.size a := by
  intro a; fin_cases a
  · show b + 1 ≤ 2; omega
  · show 256 * j + 256 ≤ 2048; omega
  · show 0 + 256 ≤ 256; omega

/-- The stores of the first `n` tiles into half `b` of the scratch, over earlier stores `rest`. -/
def tlist (b : ℕ) (hb : b < 2) {G : ℕ} (hG : G ≤ 32) (tl : Tiles F G) (rest : List (View.Piece (Elt F) S2x2048x256 .f32)) :
    (n : ℕ) → n ≤ G → List (View.Piece (Elt F) S2x2048x256 .f32)
  | 0, _ => rest
  | n + 1, h => ⟨Rect.unit (s := S2x2048x256) ![b, 64 * n, 0] S1x64x256.size (inb_tile hb (Nat.lt_of_lt_of_le h hG)),
      shapeCast S1x64x256 (tl n h) shapeCasts_S64x256_S1x64x256⟩ :: tlist b hb hG tl rest n (Nat.le_of_succ_le h)

/-- A chunk of 256 keys: its exponentials. -/
def pV (ld : Vec F S1x256x256 .f32) (m : FVec F S1x256 .f32) : FVec F S256x256 .f32 :=
  exp2 (subf (shapeCast S256x256 ld shapeCasts_S1x256x256_S256x256) (broadcastTo S256x256 m broadcasts_S1x256_S256x256))

/-- A block's chunks of 256 keys, `J` of them. -/
abbrev Chunks (F : FTy → Type) (J : ℕ) : Type := (j : ℕ) → j < J → FVec F S256x256 .f32

/-- The running sum of the exponentials, eight rows of it, after `n` chunks. -/
def l8V {J : ℕ} (p : Chunks F J) : (n : ℕ) → n ≤ J → FVec F S8x256 .f32
  | 0, _ => broadcast S8x256 (FloatOps.ofBits .f32 0x00000000#32)
  | n + 1, h => addf (l8V p n (Nat.le_of_succ_le h))
      (multiReduction .add [0] S8x256 (shapeCast S32x8x256 (p n h) shapeCasts_S256x256_S32x8x256) 0x00000000#32 reduces_S32x8x256_S8x256 (.inl rfl) rfl)

/-- The running product with the values after `n` chunks. -/
def accV {J : ℕ} (vt : (j : ℕ) → j < J → FVec F S128x256 .fp8e4m3) (p : Chunks F J) : (n : ℕ) → n ≤ J → FVec F S128x256 .f32
  | 0, _ => broadcast S128x256 (FloatOps.ofBits .f32 0x00000000#32)
  | n + 1, h => addf (accV vt p n (Nat.le_of_succ_le h))
      (matmul dot_S128x256_S256x256_S128x256_1_0_0_1_n_n none (vt n h)
        (truncf .fp8e4m3 (minimumf (broadcast S256x256 (FloatOps.ofBits .f32 0x43E00000#32))
          (maximumf (broadcast S256x256 (FloatOps.ofBits .f32 0xC3E00000#32)) (p n h))) bitsLt_fp8e4m3_f32)
        (constant S128x256 .f32 0x00000000#32))

/-- The block of the result: the product over the sum, turned, times the values' scales. -/
def outV (acc : FVec F S128x256 .f32) (l8 : FVec F S8x256 .f32) (vs : FVec F S1x128 .f32) : FVec F S1x256x128 .bf16 :=
  shapeCast S1x256x128 (truncf .bf16 (mulf (transpose S256x128 [1, 0] (divf acc (broadcastTo S128x256
      (shapeCast S1x256 (multiReduction .add [0] S256 l8 0x00000000#32 reduces_S8x256_S256 (.inl rfl) rfl) shapeCasts_S256_S1x256)
      broadcasts_S1x256_S128x256)) transposes_S128x256_p1_0_S256x128) (broadcastTo S256x128 vs broadcasts_S1x128_S256x128)) bitsLt_bf16_f32)
    shapeCasts_S256x128_S1x256x128

/-- The chunks of a block, from the scratch's stores and the maximum. -/
def chV (arg16 : Memref sig .tc .vmem S2x2048x256 .f32) (b : ℕ) (hb : b < 2) {J : ℕ} (hJ : J ≤ 8) (L : List (View.Piece (Elt F) S2x2048x256 .f32)) (m : FVec F S1x256 .f32) : Chunks F J :=
  fun j h => pV (arg16.view.readCov L (Rect.unit (s := S2x2048x256) ![b, 256 * j, 0] S1x256x256.size (inb_chunk hb (Nat.lt_of_lt_of_le h hJ))).toLoadRect) m

/-- The tiles of block `i`: four for each 256 keys up to the block's own. -/
def tlV (i : ℕ) (hi : i < 8) (s : FVec F ⟨2, ![256 * (i + 1), 256]⟩ .f32) (kl : (g : ℕ) → g < 32 → FVec F S1x256 .f32) (qsl : FVec F S1x256 .f32) :
    Tiles F (4 * (i + 1)) :=
  fun g h => tileV s kl qsl (256 * i) g (by omega) (by omega)

/-- The scratch's stores when block `i` reads it. -/
def listV (i : ℕ) (hi : i < 8) (s : FVec F ⟨2, ![256 * (i + 1), 256]⟩ .f32) (kl : (g : ℕ) → g < 32 → FVec F S1x256 .f32) (qsl : FVec F S1x256 .f32)
    (rest : List (View.Piece (Elt F) S2x2048x256 .f32)) : List (View.Piece (Elt F) S2x2048x256 .f32) :=
  tlist (i % 2) (Nat.mod_lt _ (by decide)) (by omega) (tlV i hi s kl qsl) rest (4 * (i + 1)) (Nat.le_refl _)

/-- The chunks of block `i`. -/
def chunksV (arg16 : Memref sig .tc .vmem S2x2048x256 .f32) (i : ℕ) (hi : i < 8) (s : FVec F ⟨2, ![256 * (i + 1), 256]⟩ .f32) (kl : (g : ℕ) → g < 32 → FVec F S1x256 .f32)
    (qsl : FVec F S1x256 .f32) (rest : List (View.Piece (Elt F) S2x2048x256 .f32)) : Chunks F (i + 1) :=
  chV arg16 (i % 2) (Nat.mod_lt _ (by decide)) (by omega) (listV i hi s kl qsl rest) (mV (m8V (tlV i hi s kl qsl) (4 * (i + 1)) (Nat.le_refl _)))

/-- What block `i` of the queries stores: from the products of codes `s`, the scales `kl` and `qsl`, the values `vt` and their scales `vs`. -/
def blockOut (arg16 : Memref sig .tc .vmem S2x2048x256 .f32) (i : ℕ) (hi : i < 8) (s : FVec F ⟨2, ![256 * (i + 1), 256]⟩ .f32) (kl : (g : ℕ) → g < 32 → FVec F S1x256 .f32)
    (qsl : FVec F S1x256 .f32) (vt : (j : ℕ) → j < 8 → FVec F S128x256 .fp8e4m3) (vs : FVec F S1x128 .f32)
    (rest : List (View.Piece (Elt F) S2x2048x256 .f32)) : FVec F S1x256x128 .bf16 :=
  outV (accV (fun j h => vt j (by omega)) (chunksV arg16 i hi s kl qsl rest) (i + 1) (Nat.le_refl _))
    (l8V (chunksV arg16 i hi s kl qsl rest) (i + 1) (Nat.le_refl _)) vs

section Instances

open kernelRun.sl

variable (c : Dev nD) (arg2 : Memref sig .tc .vmem S1x2048x128 .bf16) (arg3 : Memref sig .tc .vmem S1x2048x128 .bf16) (arg4 : Memref sig .tc .vmem S1x2048x128 .bf16) (arg12 : Memref sig .tc .vmem S2048x128 .bf16) (arg13 : Memref sig .tc .vmem S2048x128 .bf16) (arg14 : Memref sig .tc .vmem S128x2048 .fp8e4m3) (arg15 : Memref sig .tc .vmem S32x128 .f32) (arg16 : Memref sig .tc .vmem S2x2048x256 .f32)
  (f2 : Bf F c arg2) (f3 : Bf F c arg3) (f4 : Bf F c arg4)

theorem inb_row {g : ℕ} (h : g < 32) : ∀ a, (![g, 0] : Fin 2 → Nat) a + S1x128.size a ≤ S32x128.size a := by
  intro a; fin_cases a
  · show g + 1 ≤ 32; omega
  · show 0 + 128 ≤ 128; omega

theorem inb_cols {j : ℕ} (h : j < 8) : ∀ a, (![0, 256 * j] : Fin 2 → Nat) a + S128x256.size a ≤ S128x2048.size a := by
  intro a; fin_cases a
  · show 0 + 128 ≤ 128; omega
  · show 256 * j + 256 ≤ 2048; omega

/-- The scale row of key group `g`, twice side by side. -/
def klV (g : ℕ) (h : g < 32) : FVec F S1x256 .f32 :=
  concatenate S1x256 1 [⟨S1x128, arg15.view.readCov (H15_1 c arg3 f3) (Rect.unit (s := S32x128) ![g, 0] S1x128.size (inb_row h)).toLoadRect⟩,
    ⟨S1x128, arg15.view.readCov (H15_1 c arg3 f3) (Rect.unit (s := S32x128) ![g, 0] S1x128.size (inb_row h)).toLoadRect⟩] concatenates_S1x128_S1x128_S1x256_d1

/-- The values of chunk `j`. -/
def vtV (j : ℕ) (h : j < 8) : FVec F S128x256 .fp8e4m3 :=
  arg14.view.readCov (H14_1 c arg4 f4) (Rect.unit (s := S128x2048) ![0, 256 * j] S128x256.size (inb_cols h)).toLoadRect

theorem out_0 : v320 c arg2 arg3 arg4 arg12 arg13 arg14 arg15 arg16 f2 f3 f4
    = blockOut arg16 0 (by omega) (v199 c arg2 arg3 arg12 arg13 f2 f3) (klV c arg3 arg15 f3) (v202 c arg2 f2)
      (vtV c arg4 arg14 f4) (v128 c arg4 f4) [] := rfl

theorem out_1 : v508 c arg2 arg3 arg4 arg12 arg13 arg14 arg15 arg16 f2 f3 f4
    = blockOut arg16 1 (by omega) (v323 c arg2 arg3 arg12 arg13 f2 f3) (klV c arg3 arg15 f3) (v326 c arg2 f2)
      (vtV c arg4 arg14 f4) (v128 c arg4 f4) (H16_4 c arg2 arg3 arg12 arg13 arg15 f2 f3) := rfl

theorem out_2 : v760 c arg2 arg3 arg4 arg12 arg13 arg14 arg15 arg16 f2 f3 f4
    = blockOut arg16 2 (by omega) (v511 c arg2 arg3 arg12 arg13 f2 f3) (klV c arg3 arg15 f3) (v514 c arg2 f2)
      (vtV c arg4 arg14 f4) (v128 c arg4 f4) (H16_12 c arg2 arg3 arg12 arg13 arg15 f2 f3) := rfl

theorem out_3 : v1076 c arg2 arg3 arg4 arg12 arg13 arg14 arg15 arg16 f2 f3 f4
    = blockOut arg16 3 (by omega) (v763 c arg2 arg3 arg12 arg13 f2 f3) (klV c arg3 arg15 f3) (v766 c arg2 f2)
      (vtV c arg4 arg14 f4) (v128 c arg4 f4) (H16_24 c arg2 arg3 arg12 arg13 arg15 f2 f3) := rfl

theorem out_4 : v1456 c arg2 arg3 arg4 arg12 arg13 arg14 arg15 arg16 f2 f3 f4
    = blockOut arg16 4 (by omega) (v1079 c arg2 arg3 arg12 arg13 f2 f3) (klV c arg3 arg15 f3) (v1082 c arg2 f2)
      (vtV c arg4 arg14 f4) (v128 c arg4 f4) (H16_40 c arg2 arg3 arg12 arg13 arg15 f2 f3) := rfl

theorem out_5 : v1900 c arg2 arg3 arg4 arg12 arg13 arg14 arg15 arg16 f2 f3 f4
    = blockOut arg16 5 (by omega) (v1459 c arg2 arg3 arg12 arg13 f2 f3) (klV c arg3 arg15 f3) (v1462 c arg2 f2)
      (vtV c arg4 arg14 f4) (v128 c arg4 f4) (H16_60 c arg2 arg3 arg12 arg13 arg15 f2 f3) := rfl

theorem out_6 : v2408 c arg2 arg3 arg4 arg12 arg13 arg14 arg15 arg16 f2 f3 f4
    = blockOut arg16 6 (by omega) (v1903 c arg2 arg3 arg12 arg13 f2 f3) (klV c arg3 arg15 f3) (v1906 c arg2 f2)
      (vtV c arg4 arg14 f4) (v128 c arg4 f4) (H16_84 c arg2 arg3 arg12 arg13 arg15 f2 f3) := rfl

theorem out_7 : v2980 c arg2 arg3 arg4 arg12 arg13 arg14 arg15 arg16 f2 f3 f4
    = blockOut arg16 7 (by omega) (v2411 c arg2 arg3 arg12 arg13 f2 f3) (klV c arg3 arg15 f3) (v2414 c arg2 f2)
      (vtV c arg4 arg14 f4) (v128 c arg4 f4) (H16_112 c arg2 arg3 arg12 arg13 arg15 f2 f3) := rfl

end Instances

end Cert.KernelIdeal.Val

end
-- ==== Proof.Bridge.lean ====
module

public import proofs.«01_k».proof.Proof.Rolled

@[expose] public section

set_option maxRecDepth 16384

noncomputable section

/-! What the run names, in terms of the payloads of the three blocks it loads; and each block's products and scales as one function of
    the block's number. -/

namespace Cert.KernelIdeal.Val

open Cert.KernelIdeal Cert.KernelIdeal.Gen
open Idealize.ShloMosaic Idealize.ShloMosaic.TcCoe Idealize.SL.Sem
open kernelRun.sl

variable {F : FTy → Type} [FloatOps F] [Named F]

/-- The whole block that a window's buffer holds. -/
abbrev ldV {c : Dev nD} (M : Memref sig .tc .vmem S1x2048x128 .bf16) (f : Bf F c M) : Vec F S1x2048x128 .bf16 :=
  View.readAt (Elt F) M.view (Rect.unit (s := S1x2048x128) ![0, 0, 0] S1x2048x128.size inb_S1x2048x128_S1x2048x128_0_0_0).toLoadRect f

variable (c : Dev nD) (arg2 : Memref sig .tc .vmem S1x2048x128 .bf16) (arg3 : Memref sig .tc .vmem S1x2048x128 .bf16) (arg4 : Memref sig .tc .vmem S1x2048x128 .bf16) (arg12 : Memref sig .tc .vmem S2048x128 .bf16) (arg13 : Memref sig .tc .vmem S2048x128 .bf16) (arg14 : Memref sig .tc .vmem S128x2048 .fp8e4m3) (arg15 : Memref sig .tc .vmem S32x128 .f32) (arg16 : Memref sig .tc .vmem S2x2048x256 .f32)
  (f2 : Bf F c arg2) (f3 : Bf F c arg3) (f4 : Bf F c arg4)

/-! The keys. -/

theorem b21 : v21 c arg3 f3 = k0_pay2 (ldV arg3 f3) := rfl
theorem b34 : v34 c arg3 f3 = k0_pay4 (ldV arg3 f3) := rfl
theorem b38 : v38 c arg3 f3 = k0_pay5 (ldV arg3 f3) := rfl

/-! The values. -/

theorem b123 : v123 c arg4 f4 = k0_pay12 (k0_pay9 (ldV arg4 f4)) (k0_pay10 (ldV arg4 f4)) (k0_pay11 (ldV arg4 f4)) := rfl
theorem b128 : v128 c arg4 f4 = k0_pay14 (v123 c arg4 f4) k0_pay13 := rfl
theorem b146 : v146 c arg4 f4 = k0_pay16 (k0_pay8 (ldV arg4 f4)) (v123 c arg4 f4) := rfl
theorem b151 : v151 c arg4 f4 = k0_pay17 (k0_pay8 (ldV arg4 f4)) (v123 c arg4 f4) := rfl
theorem b155 : v155 c arg4 f4 = k0_pay18 (v123 c arg4 f4) k0_pay13 := rfl

/-! The queries. -/

theorem b173 : v173 c arg2 f2 = k0_pay21 (k0_pay20 (ldV arg2 f2)) := rfl
theorem b186 : v186 c arg2 f2 = k0_pay23 (k0_pay19 (ldV arg2 f2)) (k0_pay20 (ldV arg2 f2)) := rfl
theorem b190 : v190 c arg2 f2 = k0_pay24 (k0_pay19 (ldV arg2 f2)) (k0_pay20 (ldV arg2 f2)) := rfl
theorem b196 : v196 c arg2 f2 = k0_pay25 (k0_pay20 (ldV arg2 f2)) := rfl

/-! The blocks. -/

/-- The dimensions of the product of `n` keys' codes with a block of queries' codes. -/
abbrev dotN (n : ℕ) (wf : DotDims.WF ⟨2, ![n, 128]⟩ S256x128 ⟨2, ![n, 256]⟩ [1] [1] [0] [0] [] []) : DotDims ⟨2, ![n, 128]⟩ S256x128 ⟨2, ![n, 256]⟩ where
  lhsContracting := [1]
  rhsContracting := [1]
  lhsNonContracting := [0]
  rhsNonContracting := [0]
  lhsBatch := []
  rhsBatch := []
  wf := wf

theorem inb_rows {o n : ℕ} (h : o + n ≤ 2048) : ∀ a, (![o, 0] : Fin 2 → Nat) a + (⟨2, ![n, 128]⟩ : Shape).size a ≤ S2048x128.size a := by
  intro a; fin_cases a
  · exact h
  · show 0 + 128 ≤ 128; omega

/-- The products of block `i`: all the keys up to the block's own by the block's queries. -/
def sV (i : ℕ) (hi : i < 8) (wf : DotDims.WF ⟨2, ![256 * (i + 1), 128]⟩ S256x128 ⟨2, ![256 * (i + 1), 256]⟩ [1] [1] [0] [0] [] []) :
    FVec F ⟨2, ![256 * (i + 1), 256]⟩ .f32 :=
  matmul (dotN (256 * (i + 1)) wf) none
    (arg13.view.readCov (H13_1 c arg3 f3) (Rect.unit (s := S2048x128) ![0, 0] (⟨2, ![256 * (i + 1), 128]⟩ : Shape).size (inb_rows (by omega))).toLoadRect)
    (arg12.view.readCov (H12_1 c arg2 f2) (Rect.unit (s := S2048x128) ![256 * i, 0] S256x128.size (inb_rows (by omega))).toLoadRect)
    (constant _ .f32 0x00000000#32)

theorem slices_row {g : ℕ} (h : g < 16) : S16x128.Slices ![g, 0] S1x128 :=
  ⟨rfl, fun a => by fin_cases a; exacts [h, Nat.le_refl 128]⟩

/-- The scales of block `i`'s queries, two groups of 128. -/
def qV (i : ℕ) (hi : i < 8) : FVec F S1x256 .f32 :=
  concatenate S1x256 1 [⟨S1x128, extractStridedSlice S1x128 ![2 * i, 0] (v173 c arg2 f2) (slices_row (by omega))⟩,
    ⟨S1x128, extractStridedSlice S1x128 ![2 * i + 1, 0] (v173 c arg2 f2) (slices_row (by omega))⟩] concatenates_S1x128_S1x128_S1x256_d1

theorem s_0 : v199 c arg2 arg3 arg12 arg13 f2 f3 = sV c arg2 arg3 arg12 arg13 f2 f3 0 (by omega) (dot_S256x128_S256x128_S256x256_1_1_0_0_n_n).wf := rfl
theorem s_1 : v323 c arg2 arg3 arg12 arg13 f2 f3 = sV c arg2 arg3 arg12 arg13 f2 f3 1 (by omega) (dot_S512x128_S256x128_S512x256_1_1_0_0_n_n).wf := rfl
theorem s_2 : v511 c arg2 arg3 arg12 arg13 f2 f3 = sV c arg2 arg3 arg12 arg13 f2 f3 2 (by omega) (dot_S768x128_S256x128_S768x256_1_1_0_0_n_n).wf := rfl
theorem s_3 : v763 c arg2 arg3 arg12 arg13 f2 f3 = sV c arg2 arg3 arg12 arg13 f2 f3 3 (by omega) (dot_S1024x128_S256x128_S1024x256_1_1_0_0_n_n).wf := rfl
theorem s_4 : v1079 c arg2 arg3 arg12 arg13 f2 f3 = sV c arg2 arg3 arg12 arg13 f2 f3 4 (by omega) (dot_S1280x128_S256x128_S1280x256_1_1_0_0_n_n).wf := rfl
theorem s_5 : v1459 c arg2 arg3 arg12 arg13 f2 f3 = sV c arg2 arg3 arg12 arg13 f2 f3 5 (by omega) (dot_S1536x128_S256x128_S1536x256_1_1_0_0_n_n).wf := rfl
theorem s_6 : v1903 c arg2 arg3 arg12 arg13 f2 f3 = sV c arg2 arg3 arg12 arg13 f2 f3 6 (by omega) (dot_S1792x128_S256x128_S1792x256_1_1_0_0_n_n).wf := rfl
theorem s_7 : v2411 c arg2 arg3 arg12 arg13 f2 f3 = sV c arg2 arg3 arg12 arg13 f2 f3 7 (by omega) (dot_S2048x128_S256x128_S2048x256_1_1_0_0_n_n).wf := rfl

theorem q_0 : v202 c arg2 f2 = qV c arg2 f2 0 (by omega) := rfl
theorem q_1 : v326 c arg2 f2 = qV c arg2 f2 1 (by omega) := rfl
theorem q_2 : v514 c arg2 f2 = qV c arg2 f2 2 (by omega) := rfl
theorem q_3 : v766 c arg2 f2 = qV c arg2 f2 3 (by omega) := rfl
theorem q_4 : v1082 c arg2 f2 = qV c arg2 f2 4 (by omega) := rfl
theorem q_5 : v1462 c arg2 f2 = qV c arg2 f2 5 (by omega) := rfl
theorem q_6 : v1906 c arg2 f2 = qV c arg2 f2 6 (by omega) := rfl
theorem q_7 : v2414 c arg2 f2 = qV c arg2 f2 7 (by omega) := rfl

/-- Block `i` of the result, over whatever stores came before. -/
abbrev oV (i : ℕ) (hi : i < 8) (wf : DotDims.WF ⟨2, ![256 * (i + 1), 128]⟩ S256x128 ⟨2, ![256 * (i + 1), 256]⟩ [1] [1] [0] [0] [] [])
    (rest : List (View.Piece (Elt F) S2x2048x256 .f32)) : FVec F S1x256x128 .bf16 :=
  blockOut arg16 i hi (sV c arg2 arg3 arg12 arg13 f2 f3 i hi wf) (klV c arg3 arg15 f3) (qV c arg2 f2 i hi) (vtV c arg4 arg14 f4) (v128 c arg4 f4) rest

/-- A vector is such a block. -/
def IsBlock (i : ℕ) (hi : i < 8) (o : FVec F S1x256x128 .bf16) : Prop :=
  ∃ wf rest, o = oV c arg2 arg3 arg4 arg12 arg13 arg14 arg15 arg16 f2 f3 f4 i hi wf rest

theorem isBlock {i : ℕ} {hi : i < 8} {o : FVec F S1x256x128 .bf16} {s : FVec F ⟨2, ![256 * (i + 1), 256]⟩ .f32} {qsl : FVec F S1x256 .f32}
    {rest : List (View.Piece (Elt F) S2x2048x256 .f32)}
    {wf : DotDims.WF ⟨2, ![256 * (i + 1), 128]⟩ S256x128 ⟨2, ![256 * (i + 1), 256]⟩ [1] [1] [0] [0] [] []}
    (ho : o = blockOut arg16 i hi s (klV c arg3 arg15 f3) qsl (vtV c arg4 arg14 f4) (v128 c arg4 f4) rest)
    (hs : s = sV c arg2 arg3 arg12 arg13 f2 f3 i hi wf) (hq : qsl = qV c arg2 f2 i hi) :
    IsBlock c arg2 arg3 arg4 arg12 arg13 arg14 arg15 arg16 f2 f3 f4 i hi o := ⟨wf, rest, by rw [ho, hs, hq]⟩

/-! Every block of the result is such a block. -/

theorem block_0 : IsBlock c arg2 arg3 arg4 arg12 arg13 arg14 arg15 arg16 f2 f3 f4 0 (by omega) (v320 c arg2 arg3 arg4 arg12 arg13 arg14 arg15 arg16 f2 f3 f4) :=
  isBlock _ _ _ _ _ _ _ _ _ _ _ _ (out_0 ..) (s_0 ..) (q_0 ..)
theorem block_1 : IsBlock c arg2 arg3 arg4 arg12 arg13 arg14 arg15 arg16 f2 f3 f4 1 (by omega) (v508 c arg2 arg3 arg4 arg12 arg13 arg14 arg15 arg16 f2 f3 f4) :=
  isBlock _ _ _ _ _ _ _ _ _ _ _ _ (out_1 ..) (s_1 ..) (q_1 ..)
theorem block_2 : IsBlock c arg2 arg3 arg4 arg12 arg13 arg14 arg15 arg16 f2 f3 f4 2 (by omega) (v760 c arg2 arg3 arg4 arg12 arg13 arg14 arg15 arg16 f2 f3 f4) :=
  isBlock _ _ _ _ _ _ _ _ _ _ _ _ (out_2 ..) (s_2 ..) (q_2 ..)
theorem block_3 : IsBlock c arg2 arg3 arg4 arg12 arg13 arg14 arg15 arg16 f2 f3 f4 3 (by omega) (v1076 c arg2 arg3 arg4 arg12 arg13 arg14 arg15 arg16 f2 f3 f4) :=
  isBlock _ _ _ _ _ _ _ _ _ _ _ _ (out_3 ..) (s_3 ..) (q_3 ..)
theorem block_4 : IsBlock c arg2 arg3 arg4 arg12 arg13 arg14 arg15 arg16 f2 f3 f4 4 (by omega) (v1456 c arg2 arg3 arg4 arg12 arg13 arg14 arg15 arg16 f2 f3 f4) :=
  isBlock _ _ _ _ _ _ _ _ _ _ _ _ (out_4 ..) (s_4 ..) (q_4 ..)
theorem block_5 : IsBlock c arg2 arg3 arg4 arg12 arg13 arg14 arg15 arg16 f2 f3 f4 5 (by omega) (v1900 c arg2 arg3 arg4 arg12 arg13 arg14 arg15 arg16 f2 f3 f4) :=
  isBlock _ _ _ _ _ _ _ _ _ _ _ _ (out_5 ..) (s_5 ..) (q_5 ..)
theorem block_6 : IsBlock c arg2 arg3 arg4 arg12 arg13 arg14 arg15 arg16 f2 f3 f4 6 (by omega) (v2408 c arg2 arg3 arg4 arg12 arg13 arg14 arg15 arg16 f2 f3 f4) :=
  isBlock _ _ _ _ _ _ _ _ _ _ _ _ (out_6 ..) (s_6 ..) (q_6 ..)
theorem block_7 : IsBlock c arg2 arg3 arg4 arg12 arg13 arg14 arg15 arg16 f2 f3 f4 7 (by omega) (v2980 c arg2 arg3 arg4 arg12 arg13 arg14 arg15 arg16 f2 f3 f4) :=
  isBlock _ _ _ _ _ _ _ _ _ _ _ _ (out_7 ..) (s_7 ..) (q_7 ..)

end Cert.KernelIdeal.Val

end
-- ==== Proof.Consts.lean ====
module

public import Idealize.ShloMosaic.PureOps.Ideal

@[expose] public section

noncomputable section

/-! The real numbers that the programs' constants denote. -/

namespace Cert

open Idealize.ShloMosaic

theorem lit_neginf : Ideal.ofBits .f32 0xFF800000#32 = ⊥ := by simp [Ideal.ofBits, Ideal.ieee, -EReal.coe_mul]
theorem lit_0 : Ideal.ofBits .f32 0x00000000#32 = 0 := by simp [Ideal.ofBits, Ideal.ieee, -EReal.coe_mul]
theorem lit_8 : Ideal.ofBits .f32 0x41000000#32 = ((8 : ℝ) : EReal) := by
  simp [Ideal.ofBits, Ideal.ieee, -EReal.coe_mul]; norm_num
theorem lit_448 : Ideal.ofBits .f32 0x43E00000#32 = ((448 : ℝ) : EReal) := by
  simp [Ideal.ofBits, Ideal.ieee, -EReal.coe_mul]; norm_num
theorem lit_m448 : Ideal.ofBits .f32 0xC3E00000#32 = ((-448 : ℝ) : EReal) := by
  simp [Ideal.ofBits, Ideal.ieee, -EReal.coe_mul]; norm_num
theorem lit_127 : Ideal.ofBits .f32 0x42FE0000#32 = ((127 : ℝ) : EReal) := by
  simp [Ideal.ofBits, Ideal.ieee, -EReal.coe_mul]; norm_num
theorem lit_m127 : Ideal.ofBits .f32 0xC2FE0000#32 = ((-127 : ℝ) : EReal) := by
  simp [Ideal.ofBits, Ideal.ieee, -EReal.coe_mul]; norm_num
theorem lit_1 : Ideal.ofBits .f32 0x3F800000#32 = ((1 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_256 : Ideal.ofBits .f32 0x43800000#32 = ((256 : ℝ) : EReal) := by
  simp [Ideal.ofBits, Ideal.ieee, -EReal.coe_mul]; norm_num
theorem lit_256inv : Ideal.ofBits .f32 0x3B800000#32 = ((1 / 256 : ℝ) : EReal) := by
  simp [Ideal.ofBits, Ideal.ieee, -EReal.coe_mul]; norm_num
theorem lit_minnormal : Ideal.ofBits .f32 0x00800000#32 = (((2 : ℝ) ^ (-126 : ℤ) : ℝ) : EReal) := by
  simp [Ideal.ofBits, Ideal.ieee, -EReal.coe_mul]; norm_num

/-- The clip to the range of fp8. -/
def cl (x : EReal) : EReal := min (Ideal.ofBits .f32 0x43E00000#32) (max (Ideal.ofBits .f32 0xC3E00000#32) x)

theorem cl_zero : cl 0 = 0 := by
  rw [cl, lit_448, lit_m448, max_eq_right (by exact_mod_cast (by norm_num : (-448 : ℝ) ≤ 0)),
    min_eq_right (by exact_mod_cast (by norm_num : (0 : ℝ) ≤ 448))]

end Cert

end
-- ==== Proof.Block.lean ====
module

public import proofs.«01_k».proof.Proof.Rolled
public import proofs.«01_k».proof.Proof.Consts
public import Idealize.ShloMosaic.Lib.Pointwise
public import Idealize.ShloMosaic.Lib.Pointwise.IndexVar

@[expose] public section

set_option maxRecDepth 16384

noncomputable section

/-! What a block of queries stores, over the extended reals, as sums over its keys. -/

namespace Cert.KernelIdeal.Val

open Cert.KernelIdeal Cert.KernelIdeal.Gen
open Idealize.ShloMosaic Idealize.ShloMosaic.TcCoe Idealize.SL.Sem

/-- A sum over the first `256 (n+1)` keys, the last 256 apart. -/
theorem sum_chunk (f : ℕ → EReal) (n : ℕ) :
    ∑ k ∈ Finset.range (256 * (n + 1)), f k = ∑ k ∈ Finset.range (256 * n), f k + ∑ t : Fin 256, f (256 * n + t) := by
  rw [show 256 * (n + 1) = 256 * n + 256 by ring, Finset.sum_range_add, Fin.sum_univ_eq_sum_range (fun t => f (256 * n + t)) 256]

/-- The signed comparison of two small sums of small numbers. -/
theorem sge_small {a b c d : ℕ} (h : a + b < 2 ^ 31) (h' : c + d < 2 ^ 31) :
    IntOp.cmpi .sge (IntOp.addi (BitVec.ofNat 32 a) (BitVec.ofNat 32 b)) (IntOp.addi (BitVec.ofNat 32 c) (BitVec.ofNat 32 d))
      = BitVec.ofBool (decide (c + d ≤ a + b)) := by
  have e1 : (BitVec.ofNat 32 a + BitVec.ofNat 32 b).toInt = ((a + b : ℕ) : ℤ) := by
    rw [← BitVec.ofNat_add, BitVec.toInt_ofNat', Int.bmod_eq_of_le] <;> push_cast <;> omega
  have e2 : (BitVec.ofNat 32 c + BitVec.ofNat 32 d).toInt = ((c + d : ℕ) : ℤ) := by
    rw [← BitVec.ofNat_add, BitVec.toInt_ofNat', Int.bmod_eq_of_le] <;> push_cast <;> omega
  show BitVec.ofBool (BitVec.sle (BitVec.ofNat 32 c + BitVec.ofNat 32 d) (BitVec.ofNat 32 a + BitVec.ofNat 32 b)) = _
  rw [BitVec.sle, e1, e2]
  simp only [Nat.cast_le]

/-- The scaled and masked products of a block: key `k` against the block's query `q`. -/
def score (S : ℕ → ℕ → EReal) (KL : ℕ → EReal) (QL : ℕ → EReal) (q0 k q : ℕ) : EReal :=
  if k ≤ q0 + q then S k q * (KL (k / 64) * QL q) else ⊥

theorem tileV_apply {N : ℕ} (s : FVec Ideal ⟨2, ![N, 256]⟩ .f32) (kl : (g : ℕ) → g < 32 → FVec Ideal S1x256 .f32) (qsl : FVec Ideal S1x256 .f32)
    (S : ℕ → ℕ → EReal) (KL QL : ℕ → EReal) (hS : ∀ (k : Fin N) (q : Fin 256), s (ix2 k q) = S k q)
    (hK : ∀ g hg (q : Fin 256), kl g hg (ix2 0 q) = KL g) (hQ : ∀ q : Fin 256, qsl (ix2 0 q) = QL q) (q0 : ℕ) (hq : q0 ≤ 2048) (h64 : q0 % 64 = 0)
    (g : ℕ) (hg : g < 32) (h : 64 * g + 64 ≤ N) (a : Fin 64) (q : Fin 256) :
    tileV s kl qsl q0 g hg h (ix2 a q) = score S KL QL q0 (64 * g + a) q := by
  have hd : (64 * g + (a : ℕ)) / 64 = g := by omega
  unfold tileV
  split
  · pointwise
    rw [hS, hK, hQ, score, if_pos (by omega), hd]
  · pointwise
    rw [hS, hK, hQ, score, hd, sge_small (by omega) (by omega), lit_neginf]
    by_cases hc : 64 * g + (a : ℕ) ≤ q0 + q
    · rw [if_pos hc, decide_eq_true hc]; rfl
    · rw [if_neg hc, decide_eq_false hc]; rfl

variable {G : ℕ} (tl : Tiles Ideal G) (T : ℕ → ℕ → EReal)

theorem m8V_le (hT : ∀ g hg (a : Fin 64) (q : Fin 256), tl g hg (ix2 a q) = T (64 * g + a) q) (a : Fin 8) (q : Fin 256) (y : EReal) :
    ∀ (n : ℕ) (h : n ≤ G), m8V tl n h (ix2 a q) ≤ y ↔ ∀ g < n, ∀ c : Fin 8, T (64 * g + (c * 8 + a)) q ≤ y
  | 0, _ => by
    show Ideal.ofBits .f32 0xFF800000#32 ≤ y ↔ _
    rw [lit_neginf]; simp
  | n + 1, h => by
    have e : m8V tl (n + 1) h (ix2 a q) = max (m8V tl n (Nat.le_of_succ_le h) (ix2 a q))
        (Finset.univ.fold max (Ideal.ofBits .f32 0xFF800000#32) fun c : Fin 8 => tl n h (ix2 ⟨c * 8 + a, by omega⟩ q)) := by
      rw [m8V]; pointwise
    rw [e, max_le_iff, m8V_le hT a q y n, Finset.fold_max_le, lit_neginf]
    simp only [bot_le, true_and, Finset.mem_univ, true_implies, hT]
    constructor
    · rintro ⟨h1, h2⟩ g hg c
      rcases Nat.lt_succ_iff_lt_or_eq.mp hg with hg | rfl
      · exact h1 g hg c
      · exact h2 c
    · exact fun h => ⟨fun g hg c => h g (by omega) c, fun c => h n (by omega) c⟩

theorem mV_apply (hT : ∀ g hg (a : Fin 64) (q : Fin 256), tl g hg (ix2 a q) = T (64 * g + a) q) (q : Fin 256) (M : EReal)
    (hM : ∀ y, M ≤ y ↔ ∀ k < 64 * G, T k q ≤ y) :
    mV (m8V tl G (Nat.le_refl _)) (ix2 0 q) = M - ((8 : ℝ) : EReal) := by
  have e : mV (m8V tl G (Nat.le_refl _)) (ix2 0 q)
      = (Finset.univ.fold max (Ideal.ofBits .f32 0xFF800000#32) fun a : Fin 8 => m8V tl G (Nat.le_refl _) (ix2 a q)) - Ideal.ofBits .f32 0x41000000#32 := by
    pointwise [mV]
  rw [e, lit_8]
  congr 1
  refine eq_of_forall_ge_iff fun y => ?_
  rw [Finset.fold_max_le, hM, lit_neginf]
  simp only [bot_le, true_and, Finset.mem_univ, true_implies, m8V_le tl T hT]
  constructor
  · intro h k hk
    have := h ⟨k % 8, by omega⟩ (k / 64) (by omega) ⟨k % 64 / 8, by omega⟩
    rwa [show 64 * (k / 64) + ((k % 64 / 8) * 8 + k % 8) = k by omega] at this
  · intro h a g hg c
    exact h _ (by omega)

/-- After `n` tiles are stored, the scratch's half holds their rows. -/
theorem canon_tlist (hT : ∀ g hg (a : Fin 64) (q : Fin 256), tl g hg (ix2 a q) = T (64 * g + a) q) (b : ℕ) (hb : b < 2) (hG : G ≤ 32)
    (rest : List (View.Piece (Elt Ideal) S2x2048x256 .f32)) (k : Fin 2048) (q : Fin 256) :
    ∀ (n : ℕ) (h : n ≤ G), (k : ℕ) < 64 * n →
      View.canon (tlist b hb hG tl rest n h) (ix3 (⟨b, hb⟩ : Fin 2) k q : S2x2048x256.Idx) = T k q
  | 0, _, hk => absurd hk (by omega)
  | n + 1, h, hk => by
    rw [tlist]
    by_cases hn : (k : ℕ) < 64 * n
    · rw [View.canon_cons_of_not_mem _ _ (by
        rw [Rect.mem_set_unit]
        intro hm
        have := (hm 1).1
        have this : 64 * n ≤ (k : ℕ) := this
        omega)]
      exact canon_tlist hT b hb hG rest k q n _ hn
    · have hx : (ix3 (⟨b, hb⟩ : Fin 2) k q : S2x2048x256.Idx)
          = (Rect.unit (s := S2x2048x256) ![b, 64 * n, 0] S1x64x256.size (inb_tile hb (Nat.lt_of_lt_of_le h hG))).emb
            (ix3 (0 : Fin 1) (⟨k - 64 * n, by omega⟩ : Fin 64) q) := by
        funext x; apply Fin.ext
        fin_cases x
        · show b = b + 1 * 0; omega
        · show (k : ℕ) = 64 * n + 1 * (k - 64 * n); omega
        · show (q : ℕ) = 0 + 1 * q; omega
      rw [hx, View.canon_cons_emb]
      have e : shapeCast S1x64x256 (tl n h) shapeCasts_S64x256_S1x64x256 (ix3 (0 : Fin 1) (⟨k - 64 * n, by omega⟩ : Fin 64) q)
          = tl n h (ix2 (⟨k - 64 * n, by omega⟩ : Fin 64) q) := by pointwise
      refine e.trans ?_
      rw [hT]
      congr 1
      show 64 * n + (k - 64 * n) = (k : ℕ)
      omega

/-- What a chunk's load reads. -/
theorem load_chunk (arg16 : Memref sig .tc .vmem S2x2048x256 .f32) (hT : ∀ g hg (a : Fin 64) (q : Fin 256), tl g hg (ix2 a q) = T (64 * g + a) q)
    (b : ℕ) (hb : b < 2) (hG : G ≤ 32) (rest : List (View.Piece (Elt Ideal) S2x2048x256 .f32)) (j : ℕ) (hj : j < 8) (hjG : 256 * (j + 1) ≤ 64 * G) (t q : Fin 256) :
    arg16.view.readCov (tlist b hb hG tl rest G (Nat.le_refl _)) (Rect.unit (s := S2x2048x256) ![b, 256 * j, 0] S1x256x256.size (inb_chunk hb hj)).toLoadRect
      (ix3 (0 : Fin 1) t q) = T (256 * j + t) q := by
  rw [View.readCov_eq_canon']
  have hx : (Rect.unit (s := S2x2048x256) ![b, 256 * j, 0] S1x256x256.size (inb_chunk hb hj)).toLoadRect.idx (ix3 (0 : Fin 1) t q)
      = (ix3 (⟨b, hb⟩ : Fin 2) (⟨256 * j + t, by omega⟩ : Fin 2048) q : S2x2048x256.Idx) := by
    funext x; apply Fin.ext
    fin_cases x
    · show b + 1 * 0 = b; omega
    · show 256 * j + 1 * t = 256 * j + (t : ℕ); omega
    · show 0 + 1 * (q : ℕ) = q; omega
  show View.canon _ (LoadRect.idx _ _) = _
  rw [hx]
  exact canon_tlist tl T hT b hb hG rest ⟨256 * j + t, by omega⟩ q G (Nat.le_refl _) (by show 256 * j + (t : ℕ) < 64 * G; omega)

variable {J : ℕ} (p : Chunks Ideal J) (P : ℕ → EReal)

theorem l8V_sum (q : Fin 256) (hP : ∀ j hj (t : Fin 256), p j hj (ix2 t q) = P (256 * j + t)) :
    ∀ (n : ℕ) (h : n ≤ J), ∑ a : Fin 8, l8V p n h (ix2 a q) = ∑ k ∈ Finset.range (256 * n), P k
  | 0, _ => by
    refine Finset.sum_eq_zero fun a _ => ?_
    show Ideal.ofBits .f32 0x00000000#32 = 0
    exact lit_0
  | n + 1, h => by
    have e : ∀ a : Fin 8, l8V p (n + 1) h (ix2 a q) = l8V p n (Nat.le_of_succ_le h) (ix2 a q) + ∑ c : Fin 32, p n h (ix2 ⟨c * 8 + a, by omega⟩ q) := by
      intro a; rw [l8V]; pointwise
    rw [Finset.sum_congr rfl fun a _ => e a, Finset.sum_add_distrib, l8V_sum q hP n, sum_chunk, Finset.sum_comm]
    congr 1
    rw [Fin.sum_univ_tiles 32 8 rfl]
    simp only [hP]

theorem accV_apply (vt : (j : ℕ) → j < J → FVec Ideal S128x256 .fp8e4m3) (V : ℕ → ℕ → EReal)
    (hV : ∀ j hj (d : Fin 128) (t : Fin 256), vt j hj (ix2 d t) = V d (256 * j + t))
    (d : Fin 128) (q : Fin 256) (hP : ∀ j hj (t : Fin 256), p j hj (ix2 t q) = P (256 * j + t)) :
    ∀ (n : ℕ) (h : n ≤ J), accV vt p n h (ix2 d q) = ∑ k ∈ Finset.range (256 * n), V d k * cl (P k)
  | 0, _ => by
    show Ideal.ofBits .f32 0x00000000#32 = ∑ k ∈ Finset.range (256 * 0), _
    rw [lit_0]; rfl
  | n + 1, h => by
    have e : accV vt p (n + 1) h (ix2 d q) = accV vt p n (Nat.le_of_succ_le h) (ix2 d q)
        + ∑ t : Fin 256, vt n h (ix2 d t) * min (Ideal.ofBits .f32 0x43E00000#32) (max (Ideal.ofBits .f32 0xC3E00000#32) (p n h (ix2 t q))) := by
      rw [accV]; pointwise
    rw [e, accV_apply vt V hV d q hP n, sum_chunk]
    simp only [hP, hV, cl]

theorem pV_apply (ld : Vec Ideal S1x256x256 .f32) (m : FVec Ideal S1x256 .f32) (t q : Fin 256) :
    pV ld m (ix2 t q) = Ideal.exp2 (ld (ix3 0 t q) - m (ix2 0 q)) := by
  pointwise [pV]; rfl

theorem outV_apply (acc : FVec Ideal S128x256 .f32) (l8 : FVec Ideal S8x256 .f32) (vs : FVec Ideal S1x128 .f32) (q : Fin 256) (d : Fin 128) :
    outV acc l8 vs (ix3 0 q d) = Ideal.div (acc (ix2 d q)) (∑ a : Fin 8, l8 (ix2 a q)) * vs (ix2 0 d) := by
  pointwise [outV]

/-- WHAT BLOCK `i` STORES at query `q` and lane `d`: the values weighed by the exponentials of the scores, over the sum of the
    exponentials, times the lane's scale. `M` is the greatest score. -/
theorem blockOut_apply (arg16 : Memref sig .tc .vmem S2x2048x256 .f32) (i : ℕ) (hi : i < 8) (s : FVec Ideal ⟨2, ![256 * (i + 1), 256]⟩ .f32)
    (kl : (g : ℕ) → g < 32 → FVec Ideal S1x256 .f32) (qsl : FVec Ideal S1x256 .f32) (vt : (j : ℕ) → j < 8 → FVec Ideal S128x256 .fp8e4m3)
    (vs : FVec Ideal S1x128 .f32) (rest : List (View.Piece (Elt Ideal) S2x2048x256 .f32))
    (S : ℕ → ℕ → EReal) (KL QL : ℕ → EReal) (V : ℕ → ℕ → EReal)
    (hS : ∀ (k : Fin (256 * (i + 1))) (q : Fin 256), s (ix2 k q) = S k q)
    (hK : ∀ g hg (q : Fin 256), kl g hg (ix2 0 q) = KL g) (hQ : ∀ q : Fin 256, qsl (ix2 0 q) = QL q)
    (hV : ∀ j hj (d : Fin 128) (t : Fin 256), vt j hj (ix2 d t) = V d (256 * j + t))
    (q : Fin 256) (d : Fin 128) (M : EReal) (hM : ∀ y, M ≤ y ↔ ∀ k < 256 * (i + 1), score S KL QL (256 * i) k q ≤ y) :
    blockOut arg16 i hi s kl qsl vt vs rest (ix3 0 q d)
      = Ideal.div (∑ k ∈ Finset.range (256 * (i + 1)), V d k * cl (Ideal.exp2 (score S KL QL (256 * i) k q - (M - ((8 : ℝ) : EReal)))))
          (∑ k ∈ Finset.range (256 * (i + 1)), Ideal.exp2 (score S KL QL (256 * i) k q - (M - ((8 : ℝ) : EReal)))) * vs (ix2 0 d) := by
  have hT : ∀ g hg (a : Fin 64) (q : Fin 256), tlV i hi s kl qsl g hg (ix2 a q) = score S KL QL (256 * i) (64 * g + a) q := fun g hg a q =>
    tileV_apply s kl qsl S KL QL hS hK hQ (256 * i) (by omega) (by omega) g _ _ a q
  have hm : mV (m8V (tlV i hi s kl qsl) (4 * (i + 1)) (Nat.le_refl _)) (ix2 0 q) = M - ((8 : ℝ) : EReal) :=
    mV_apply _ _ hT q M (by rw [show 64 * (4 * (i + 1)) = 256 * (i + 1) by ring]; exact hM)
  have hP : ∀ j hj (t : Fin 256), chunksV arg16 i hi s kl qsl rest j hj (ix2 t q)
      = Ideal.exp2 (score S KL QL (256 * i) (256 * j + t) q - (M - ((8 : ℝ) : EReal))) := by
    intro j hj t
    rw [chunksV, chV, pV_apply, hm]
    congr 2
    exact load_chunk _ _ arg16 hT _ _ _ rest j (by omega) (by omega) t q
  let P : ℕ → EReal := fun k => Ideal.exp2 (score S KL QL (256 * i) k q - (M - ((8 : ℝ) : EReal)))
  rw [blockOut, outV_apply, l8V_sum _ P q hP, accV_apply _ P _ V (fun j hj => hV j _) d q hP]

end Cert.KernelIdeal.Val

end
-- ==== Proof.Spec.lean ====
module

public import proofs.«01_k».proof.Proof.Consts
public import Idealize.ShloMosaic.Lib.Pointwise

@[expose] public section

noncomputable section

/-! What the two programs compute, head by head: from one head's queries, keys and values (2048 tokens of 128 lanes each) its int8
    codes and scales, its fp8 codes and scales, and its causal attention over the codes. -/

namespace Cert.Spec

open Idealize.ShloMosaic

/-- The array of all heads: 8 batches, 2048 tokens, 8 heads of 128 lanes. -/
abbrev Arr : Type := (⟨3, ![8, 2048, 1024]⟩ : Shape).Idx → EReal

/-- One head's matrix. -/
abbrev Mat : Type := Fin 2048 → Fin 128 → EReal

/-- Head `h` of batch `b`. -/
def head (A : Arr) (b h : Fin 8) : Mat := fun r d => A (ix3 b r ⟨h * 128 + d, by omega⟩)

/-- The greatest magnitude of a group of tokens. -/
def groupMax {n : ℕ} (f : Fin n → Fin 128 → EReal) : EReal :=
  Finset.univ.fold max (Ideal.ofBits .f32 0xFF800000#32) fun d : Fin 128 =>
    Finset.univ.fold max (Ideal.ofBits .f32 0xFF800000#32) fun r : Fin n => FloatOps.absf (F := Ideal) (φ := .f32) (f r d)

/-- The int8 scale: the greatest magnitude over 127, or 1 if that is 0. -/
def scaleOf (a : EReal) : EReal := if a = 0 then 1 else Ideal.div a (Ideal.ofBits .f32 0x42FE0000#32)

/-- The int8 code, as a real number: the quotient rounded and clipped. -/
def code (x s : EReal) : EReal :=
  min (Ideal.ofBits .f32 0x42FE0000#32) (max (Ideal.ofBits .f32 0xC2FE0000#32) (Ideal.liftRound Ideal.roundHalfEven (Ideal.div x s)))

/-- A query, scaled by the root of 1/128. -/
def query (X : Mat) (r : Fin 2048) (d : Fin 128) : EReal := X r d * Ideal.ofBits .f32 1035273459#32

/-- The scale of a group of 128 queries. -/
def qscale (X : Mat) (g : Fin 16) : EReal := scaleOf (groupMax fun (r : Fin 128) d => query X ⟨g * 128 + r, by omega⟩ d)

/-- A query's code. -/
def qcode (X : Mat) (r : Fin 2048) (d : Fin 128) : EReal := code (query X r d) (qscale X ⟨r / 128, by omega⟩)

/-- A key less the mean of the keys. -/
def key (K : Mat) (r : Fin 2048) (d : Fin 128) : EReal := K r d - Ideal.div (∑ x, K x d) (Ideal.ofBits .f32 1157627904#32)

/-- The scale of a group of 64 keys. -/
def kscale (K : Mat) (g : Fin 32) : EReal := scaleOf (groupMax fun (r : Fin 64) d => key K ⟨g * 64 + r, by omega⟩ d)

/-- A key's code. -/
def kcode (K : Mat) (r : Fin 2048) (d : Fin 128) : EReal := code (key K r d) (kscale K ⟨r / 64, by omega⟩)

/-- A lane's greatest value, over 448. -/
def vtop (V : Mat) (d : Fin 128) : EReal :=
  (Finset.univ.fold max (Ideal.ofBits .f32 0xFF800000#32) fun r : Fin 2048 => FloatOps.absf (F := Ideal) (φ := .f32) (V r d)) * Ideal.ofBits .f32 991054117#32

/-- The exponent of the power of two above `y`, or 0 where `y` is below the normal numbers. -/
def expOf (y : EReal) : EReal :=
  if y < Ideal.ofBits .f32 8388608#32 then 0
  else Ideal.liftRound Int.floor (Ideal.div (Ideal.log y) (Ideal.log (Ideal.ofBits .f32 1073741824#32))) + 1

/-- The exponent of a lane's scale. -/
def vexp (V : Mat) (d : Fin 128) : EReal := expOf (vtop V d)

/-- A lane's scale. -/
def vscale (V : Mat) (d : Fin 128) : EReal := Ideal.exp2 (vexp V d)

/-- A value's code. -/
def vcode (V : Mat) (r : Fin 2048) (d : Fin 128) : EReal := cl (V r d * Ideal.exp2 (0 - vexp V d))

/-- The masked score of key `k` for query `q`. -/
def rscore (X K : Mat) (q k : Fin 2048) : EReal :=
  if (k : ℕ) ≤ q then (∑ d, qcode X q d * kcode K k d) * qscale X ⟨q / 128, by omega⟩ * kscale K ⟨k / 64, by omega⟩ else ⊥

/-- The weights' sum over the values, from one query's scores `sc`, one lane's codes `vc` and its scale `vs`. -/
def outOf (sc vc : Fin 2048 → EReal) (vs : EReal) : EReal :=
  Ideal.div
    ((∑ k, vc k * cl (Ideal.exp (sc k - Finset.univ.fold max (Ideal.ofBits .f32 0xFF800000#32) fun j => sc j) * Ideal.ofBits .f32 0x43800000#32))
      * Ideal.ofBits .f32 0x3B800000#32 * vs)
    (∑ k, Ideal.exp (sc k - Finset.univ.fold max (Ideal.ofBits .f32 0xFF800000#32) fun j => sc j))

/-- A query's attention: the values weighed by the exponentials, over their sum. -/
def out (X K V : Mat) (q : Fin 2048) (d : Fin 128) : EReal := outOf (rscore X K q) (fun k => vcode V k d) (vscale V d)

/-- A code is an integer from −127 to 127. -/
theorem code_int (x s : EReal) : ∃ n : ℤ, -127 ≤ n ∧ n ≤ 127 ∧ code x s = ((n : ℝ) : EReal) := by
  unfold code
  rw [lit_127, lit_m127]
  induction Ideal.div x s with
  | bot => exact ⟨-127, by norm_num, by norm_num, by
      rw [Ideal.liftRound_bot, max_eq_left bot_le, min_eq_right (by exact_mod_cast (by norm_num : (-127 : ℝ) ≤ 127))]; norm_num⟩
  | top => exact ⟨127, by norm_num, by norm_num, by
      rw [Ideal.liftRound_top, max_eq_right le_top, min_eq_left le_top]; norm_num⟩
  | coe z =>
    rw [Ideal.liftRound_coe]
    generalize Ideal.roundHalfEven z = n
    refine ⟨min 127 (max (-127) n), by omega, by omega, ?_⟩
    rcases le_total n (-127) with h | h
    · rw [max_eq_left (by exact_mod_cast h), min_eq_right (by exact_mod_cast (by norm_num : (-127 : ℝ) ≤ 127)), max_eq_left h]; norm_num
    · rw [max_eq_right (by exact_mod_cast h), max_eq_right h]
      rcases le_total n 127 with h' | h'
      · rw [min_eq_right (by exact_mod_cast h'), min_eq_right h']
      · rw [min_eq_left (by exact_mod_cast h'), min_eq_left h']; norm_num

/-- So it comes back from int8. -/
theorem code_roundtrip (x s : EReal) :
    FloatOps.sitofp (F := Ideal) .bf16 (FloatOps.fptosi (F := Ideal) (φ := .f32) 8 (code x s)) = code x s := by
  obtain ⟨n, h1, h2, h⟩ := code_int x s
  rw [h]
  show (((BitVec.ofInt 8 (Ideal.toIntClamped (-(2 ^ (8 - 1) : Nat)) ((2 ^ (8 - 1) : Nat) - 1) ((n : ℝ) : EReal))).toInt : ℝ) : EReal) = _
  have e : Ideal.toIntClamped (-(2 ^ (8 - 1) : Nat)) ((2 ^ (8 - 1) : Nat) - 1) ((n : ℝ) : EReal) = n := by
    rw [Ideal.toIntClamped_coe]
    simp only [Int.floor_intCast, Int.ceil_intCast, ite_self]
    norm_num
    omega
  rw [e, BitVec.toInt_ofInt, Int.bmod_eq_of_le (by norm_num; omega) (by norm_num; omega)]

end Cert.Spec

end
-- ==== Proof.Softmax.lean ====
module

public import proofs.«01_k».proof.Proof.Spec

@[expose] public section

noncomputable section

/-! The attention of one query, with the exponentials to base two of scaled scores less the maximum that has eight taken off, is the
    attention with the natural exponentials. -/

namespace Cert.Softmax

open Idealize.ShloMosaic Cert.Spec

/-- The logarithm of e to base two. -/
abbrev L : ℝ := (Real.log 2)⁻¹

theorem L_pos : 0 < L := inv_pos.mpr (Real.log_pos (by norm_num))

theorem L_mul_bot : (L : EReal) * ⊥ = ⊥ := by rw [mul_comm]; exact EReal.bot_mul_coe_of_pos L_pos
theorem L_mul_top : (L : EReal) * ⊤ = ⊤ := EReal.coe_mul_top_of_pos L_pos

theorem L_mono : Monotone fun x : EReal => (L : EReal) * x := fun x y h => mul_le_mul_of_nonneg_left h (by exact_mod_cast L_pos.le)

/-- The natural exponential of a score less the maximum is a real number that is not negative. -/
theorem exp_real {u U : EReal} (h : u ≤ U) : ∃ r : ℝ, 0 ≤ r ∧ Ideal.exp (u - U) = (r : EReal) := by
  induction u with
  | bot => exact ⟨0, le_refl _, by rw [EReal.bot_sub]; rfl⟩
  | top => exact ⟨0, le_refl _, by rw [top_le_iff.mp h, EReal.sub_top]; rfl⟩
  | coe u =>
    induction U with
    | bot => exact absurd h (not_le.mpr (EReal.bot_lt_coe u))
    | top => exact ⟨0, le_refl _, by rw [EReal.sub_top]; rfl⟩
    | coe U => exact ⟨Real.exp (u - U), (Real.exp_pos _).le, rfl⟩

/-- The change of base. -/
theorem exp2_eq {u U : EReal} (h : u ≤ U) :
    Ideal.exp2 ((L : EReal) * u - ((L : EReal) * U - ((8 : ℝ) : EReal))) = Ideal.exp (u - U) * ((256 : ℝ) : EReal) := by
  have z : (0 : EReal) = Ideal.exp ⊥ * ((256 : ℝ) : EReal) := (zero_mul _).symm
  have z2 : Ideal.exp2 ⊥ = 0 := rfl
  induction u with
  | bot => rw [L_mul_bot, EReal.bot_sub, EReal.bot_sub, ← z, z2]
  | top => rw [top_le_iff.mp h, L_mul_top, EReal.top_sub_coe, EReal.sub_top, ← z, z2]
  | coe u =>
    induction U with
    | bot => exact absurd h (not_le.mpr (EReal.bot_lt_coe u))
    | top => rw [L_mul_top, EReal.top_sub_coe, EReal.sub_top, EReal.sub_top, ← z, z2]
    | coe U =>
      rw [← EReal.coe_mul, ← EReal.coe_mul, ← EReal.coe_sub, ← EReal.coe_sub, ← EReal.coe_sub]
      show ((Real.rpow 2 (L * u - (L * U - 8)) : ℝ) : EReal) = ((Real.exp (u - U) : ℝ) : EReal) * _
      rw [← EReal.coe_mul]
      congr 1
      show (2 : ℝ) ^ (L * u - (L * U - 8)) = _
      have l2 : Real.log 2 ≠ 0 := (Real.log_pos (by norm_num)).ne'
      rw [show L * u - (L * U - 8) = (u - U) / Real.log 2 + 8 by rw [div_eq_mul_inv]; ring, Real.rpow_add (by norm_num), Real.rpow_def_of_pos (by norm_num),
        mul_div_cancel₀ _ l2]
      norm_num

/-- A sum of real numbers among the extended ones. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A sum over the first keys, where the others give 0, is the sum over all keys. -/
theorem sum_range_eq (f : ℕ → EReal) (g : Fin 2048 → EReal) (n : ℕ) (hn : n ≤ 2048) (h : ∀ k : Fin 2048, (k : ℕ) < n → f k = g k)
    (h0 : ∀ k : Fin 2048, n ≤ (k : ℕ) → g k = 0) : ∑ k ∈ Finset.range n, f k = ∑ k, g k := by
  have e : ∀ k : Fin 2048, g k = (fun k : ℕ => if k < n then f k else 0) k := fun k => by
    by_cases hk : (k : ℕ) < n
    · simp only [hk, if_true, h k hk]
    · simp only [hk, if_false, h0 k (by omega)]
  rw [Finset.sum_congr rfl fun k _ => e k, Fin.sum_univ_eq_sum_range (fun k : ℕ => if k < n then f k else 0) 2048]
  rw [← Finset.sum_subset (Finset.range_subset_range.mpr hn) fun k _ hk => if_neg (by simpa using hk)]
  exact Finset.sum_congr rfl fun k hk => (if_pos (Finset.mem_range.mp hk)).symm

/-- The last division and the two scales, in either order. -/
theorem div_scale (A : EReal) (l s : ℝ) (hs : 0 < s) :
    Ideal.div A ((256 * l : ℝ) : EReal) * ((s : ℝ) : EReal) = Ideal.div (A * ((1 / 256 : ℝ) : EReal) * ((s : ℝ) : EReal)) ((l : ℝ) : EReal) := by
  by_cases h : l = 0
  · subst h
    rw [mul_zero, EReal.coe_zero, Ideal.div, Ideal.div, if_pos rfl, if_pos rfl]
    have e : (0 < A * ((1 / 256 : ℝ) : EReal) * ((s : ℝ) : EReal)) ↔ 0 < A := by
      have hc : (0 : ℝ) < 1 / 256 * s := by positivity
      rw [mul_assoc, ← EReal.coe_mul]
      induction A with
      | bot => rw [EReal.bot_mul_coe_of_pos hc]
      | top => rw [EReal.top_mul_coe_of_pos hc]
      | coe a =>
        rw [← EReal.coe_mul]
        norm_cast
        exact mul_pos_iff_of_pos_right hc
    by_cases hA : 0 < A
    · rw [if_pos hA, if_pos (e.mpr hA), EReal.top_mul_coe_of_pos hs]
    · rw [if_neg hA, if_neg (e.not.mpr hA), EReal.bot_mul_coe_of_pos hs]
  · rw [Ideal.div, Ideal.div, if_neg (by exact_mod_cast mul_ne_zero (by norm_num) h), if_neg (by exact_mod_cast h), ← EReal.coe_inv, ← EReal.coe_inv,
      mul_assoc, mul_assoc, mul_assoc, ← EReal.coe_mul, ← EReal.coe_mul, ← EReal.coe_mul]
    congr 2
    field_simp

/-- The greatest scaled score is the scaled greatest score. -/
theorem max_scaled (sc : Fin 2048 → EReal) (y : EReal) :
    (L : EReal) * (Finset.univ.fold max (Ideal.ofBits .f32 0xFF800000#32) fun j => sc j) ≤ y ↔ ∀ k, (L : EReal) * sc k ≤ y := by
  rw [← Finset.fold_hom (op' := max) (m := fun x : EReal => (L : EReal) * x) (fun a b => L_mono.map_max), Finset.fold_max_le, lit_neginf, L_mul_bot]
  simp

/-- THE ATTENTION OF ONE QUERY: the kernel's form over the first `n` keys against the reference's over all. -/
theorem attention (sc vc : Fin 2048 → EReal) (T V : ℕ → EReal) (n : ℕ) (hn : n ≤ 2048) (s : ℝ) (hs : 0 < s)
    (hT : ∀ k : Fin 2048, (k : ℕ) < n → T k = (L : EReal) * sc k) (h0 : ∀ k : Fin 2048, n ≤ (k : ℕ) → sc k = ⊥) (hV : ∀ k : Fin 2048, V k = vc k) :
    ∃ M : EReal, (∀ y, M ≤ y ↔ ∀ k < n, T k ≤ y)
      ∧ Ideal.div (∑ k ∈ Finset.range n, V k * cl (Ideal.exp2 (T k - (M - ((8 : ℝ) : EReal))))) (∑ k ∈ Finset.range n, Ideal.exp2 (T k - (M - ((8 : ℝ) : EReal)))) * ((s : ℝ) : EReal)
        = outOf sc vc ((s : ℝ) : EReal) := by
  obtain ⟨U, hU⟩ : ∃ U, U = Finset.univ.fold max (Ideal.ofBits .f32 0xFF800000#32) fun j => sc j := ⟨_, rfl⟩
  have hle : ∀ k, sc k ≤ U := fun k => by
    have := (Finset.fold_max_le (c := U) (b := Ideal.ofBits .f32 0xFF800000#32) (f := fun j => sc j) (s := Finset.univ)).mp (le_of_eq hU.symm)
    exact this.2 k (Finset.mem_univ k)
  refine ⟨(L : EReal) * U, fun y => ?_, ?_⟩
  · rw [hU, max_scaled]
    constructor
    · intro h k hk
      rw [hT ⟨k, by omega⟩ hk]; exact h _
    · intro h k
      rcases Nat.lt_or_ge (k : ℕ) n with hk | hk
      · rw [← hT k hk]; exact h k hk
      · rw [h0 k hk, L_mul_bot]; exact bot_le
  · choose E hE0 hE using fun k => exp_real (hle k)
    have hp : ∀ k : Fin 2048, (k : ℕ) < n → Ideal.exp2 (T k - ((L : EReal) * U - ((8 : ℝ) : EReal))) = Ideal.exp (sc k - U) * ((256 : ℝ) : EReal) := fun k hk => by
      rw [hT k hk, exp2_eq (hle k)]
    have hz : ∀ k : Fin 2048, n ≤ (k : ℕ) → Ideal.exp (sc k - U) * ((256 : ℝ) : EReal) = 0 := fun k hk => by
      rw [h0 k hk, EReal.bot_sub]; exact zero_mul _
    rw [outOf, ← hU, lit_256, lit_256inv]
    rw [sum_range_eq (fun k => Ideal.exp2 (T k - ((L : EReal) * U - ((8 : ℝ) : EReal)))) (fun k => Ideal.exp (sc k - U) * ((256 : ℝ) : EReal)) n hn hp hz]
    rw [sum_range_eq (fun k => V k * cl (Ideal.exp2 (T k - ((L : EReal) * U - ((8 : ℝ) : EReal))))) (fun k => vc k * cl (Ideal.exp (sc k - U) * ((256 : ℝ) : EReal))) n hn
      (fun k hk => by rw [hp k hk, hV k]) (fun k hk => by rw [hz k hk, cl_zero, mul_zero])]
    have e1 : ∑ k, Ideal.exp (sc k - U) * ((256 : ℝ) : EReal) = ((256 * ∑ k, E k : ℝ) : EReal) := by
      rw [Finset.mul_sum, ← coe_sum]
      exact Finset.sum_congr rfl fun k _ => by rw [hE k, ← EReal.coe_mul, mul_comm]
    have e2 : ∑ k, Ideal.exp (sc k - U) = ((∑ k, E k : ℝ) : EReal) := by
      rw [← coe_sum]
      exact Finset.sum_congr rfl fun k _ => hE k
    rw [e1, e2]
    exact div_scale _ _ s hs

end Cert.Softmax

end
-- ==== Proof.Exponent.lean ====
module

public import proofs.«01_k».proof.Proof.Spec

@[expose] public section

noncomputable section

/-! The exponent field of a number, found by binary search, is the exponent that the logarithm gives. -/

namespace Cert.Exponent

open Idealize.ShloMosaic Cert.Spec

/-- A word read as a float once it is shifted into the exponent field. -/
def sh (w : BitVec 32) : EReal := Ideal.ofBits .f32 (IntOp.shli .vector w 23#32)

theorem shl_eq (t c : ℕ) (h : t < 256) (hc : c = t * 8388608) : IntOp.shli .vector (BitVec.ofNat 32 t) 23#32 = BitVec.ofNat 32 c := by
  have e : (23#32 : BitVec 32).toNat = 23 := by decide
  rw [IntOp.shli, if_pos (by decide)]
  apply BitVec.eq_of_toNat_eq
  rw [BitVec.shiftLeft_eq', BitVec.toNat_shiftLeft, e, BitVec.toNat_ofNat, BitVec.toNat_ofNat, Nat.shiftLeft_eq]
  norm_num only
  omega

theorem field_neg (t c : ℕ) (h : t < 256) (hc : c = t * 8388608) : ((BitVec.ofNat 32 c).extractLsb' (8 + 23) 1 == 1#1) = false := by
  have : (BitVec.ofNat 32 c).extractLsb' (8 + 23) 1 = 0#1 := by
    apply BitVec.eq_of_toNat_eq
    rw [BitVec.extractLsb'_toNat, BitVec.toNat_ofNat, Nat.shiftRight_eq_div_pow, BitVec.toNat_ofNat]
    norm_num only
    omega
  rw [this]; decide

theorem field_exp (t c : ℕ) (h : t < 256) (hc : c = t * 8388608) : ((BitVec.ofNat 32 c).extractLsb' 23 8).toNat = t := by
  rw [BitVec.extractLsb'_toNat, BitVec.toNat_ofNat, Nat.shiftRight_eq_div_pow]
  norm_num only
  omega

theorem field_frac (t c : ℕ) (h : t < 256) (hc : c = t * 8388608) : ((BitVec.ofNat 32 c).extractLsb' 0 23).toNat = 0 := by
  rw [BitVec.extractLsb'_toNat, BitVec.toNat_ofNat, Nat.shiftRight_eq_div_pow]
  norm_num only
  omega

theorem ieee_eq (b : BitVec 32) : Ideal.ofBits .f32 b = Ideal.ieee 8 23 b := rfl

/-- Below the top exponent the word `t` gives the power of two `2 ^ (t - 127)`; -/
theorem sh_ofNat (t : ℕ) (h : 1 ≤ t) (h' : t ≤ 254) : sh (BitVec.ofNat 32 t) = (((2 : ℝ) ^ ((t : ℤ) - 127) : ℝ) : EReal) := by
  obtain ⟨c, hc⟩ : ∃ c, c = t * 8388608 := ⟨_, rfl⟩
  rw [sh, shl_eq t c (by omega) hc, ieee_eq, Ideal.ieee]
  simp only [field_neg t c (by omega) hc, field_exp t c (by omega) hc, field_frac t c (by omega) hc]
  rw [if_neg (by omega), if_neg (by omega)]
  congr 1
  rw [if_neg (by decide), one_mul]
  have : (((2 ^ 23 + 0 : ℕ) : ℝ)) = (2 : ℝ) ^ (23 : ℤ) := by norm_num
  rw [this, ← zpow_add₀ (by norm_num)]
  congr 1
  norm_num

/-- at the top one it gives the infinity. -/
theorem sh_255 : sh (BitVec.ofNat 32 255) = ⊤ := by
  obtain ⟨c, hc⟩ : ∃ c, c = 255 * 8388608 := ⟨_, rfl⟩
  rw [sh, shl_eq 255 c (by omega) hc, ieee_eq, Ideal.ieee]
  simp only [field_neg 255 c (by omega) hc, field_exp 255 c (by omega) hc, field_frac 255 c (by omega) hc]
  norm_num

/-- One step of the search: set the bit `m` if the test holds with it. -/
def step (P : BitVec 32 → Bool) (m b : BitVec 32) : BitVec 32 := if P (b ||| m) then b ||| m else b

/-- The search over the bits of the exponent field. -/
def search (P : BitVec 32 → Bool) : BitVec 32 :=
  step P 1#32 (step P 2#32 (step P 4#32 (step P 8#32 (step P 16#32 (step P 32#32 (step P 64#32 (step P 128#32 0#32)))))))

theorem step_congr {P Q : BitVec 32 → Bool} (hPQ : ∀ w : BitVec 32, 1 ≤ w.toNat → w.toNat ≤ 255 → P w = Q w) (m : BitVec 32) (hm : 1 ≤ m.toNat) (hm' : m.toNat ≤ 255)
    {b : BitVec 32} (hb : b.toNat ≤ 255) : step P m b = step Q m b ∧ (step Q m b).toNat ≤ 255 := by
  have e : (b ||| m).toNat = b.toNat ||| m.toNat := BitVec.toNat_or ..
  have h1 : m.toNat ≤ b.toNat ||| m.toNat := Nat.right_le_or
  have h2 : b.toNat ||| m.toNat < 2 ^ 8 := Nat.or_lt_two_pow (by omega) (by omega)
  refine ⟨by rw [step, step, hPQ _ (by omega) (by omega)], ?_⟩
  rw [step]
  split <;> omega

theorem search_congr {P Q : BitVec 32 → Bool} (hPQ : ∀ w : BitVec 32, 1 ≤ w.toNat → w.toNat ≤ 255 → P w = Q w) : search P = search Q := by
  have s := fun m hm hm' b hb => step_congr hPQ (b := b) m hm hm' hb
  have c1 := s 128#32 (by decide) (by decide) 0#32 (by decide)
  have c2 := s 64#32 (by decide) (by decide) _ c1.2
  have c3 := s 32#32 (by decide) (by decide) _ c2.2
  have c4 := s 16#32 (by decide) (by decide) _ c3.2
  have c5 := s 8#32 (by decide) (by decide) _ c4.2
  have c6 := s 4#32 (by decide) (by decide) _ c5.2
  have c7 := s 2#32 (by decide) (by decide) _ c6.2
  have c8 := s 1#32 (by decide) (by decide) _ c7.2
  rw [search, search, c1.1, c2.1, c3.1, c4.1, c5.1, c6.1, c7.1, c8.1]

/-- The search finds the bound of a test that holds up to it. -/
theorem search_le : ∀ N : Fin 256, search (fun w => decide (w.toNat ≤ N)) = BitVec.ofNat 32 N := by
  decide +kernel

/-- What the kernel makes of a field: the exponent, 0 for the field 0. -/
def expWord (z : Bool) (n : BitVec 32) : BitVec 32 := if z ∨ n = 0#32 then 0#32 else n - 126#32

/-- The exponent of a real number from 0 up to `2 ^ 120`: by search and by logarithm. -/
theorem exists_exp (y : ℝ) (h0 : 0 ≤ y) (h1 : y < (2 : ℝ) ^ (120 : ℤ)) :
    ∃ e : ℤ, -126 ≤ e ∧ e ≤ 120 ∧ expOf (y : EReal) = ((e : ℝ) : EReal)
      ∧ (∀ z : Bool, (z = true → y = 0) → expWord z (search fun w => decide (sh w ≤ (y : EReal))) = BitVec.ofInt 32 e) := by
  have key : ∀ N : ℕ, N ≤ 254 → (∀ t : ℕ, 1 ≤ t → t ≤ 254 → ((2 : ℝ) ^ ((t : ℤ) - 127) ≤ y ↔ t ≤ N)) →
      (search fun w => decide (sh w ≤ (y : EReal))) = BitVec.ofNat 32 N := by
    intro N hN hT
    refine (search_congr fun w hw hw' => ?_).trans (search_le ⟨N, by omega⟩)
    obtain ⟨t, rfl, ht⟩ : ∃ t : ℕ, w = BitVec.ofNat 32 t ∧ w.toNat = t := ⟨w.toNat, by simp, rfl⟩
    rw [ht] at hw hw'
    rw [ht]
    refine decide_eq_decide.mpr ?_
    rcases Nat.lt_or_ge t 255 with h | h
    · rw [sh_ofNat t hw (by omega), EReal.coe_le_coe_iff]
      exact hT t hw (by omega)
    · obtain rfl : t = 255 := by omega
      rw [sh_255]
      simp
      omega
  have hmin : Ideal.ofBits .f32 8388608#32 = (((2 : ℝ) ^ (-126 : ℤ) : ℝ) : EReal) := lit_minnormal
  rcases lt_or_ge y ((2 : ℝ) ^ (-126 : ℤ)) with hy | hy
  · refine ⟨0, by norm_num, by norm_num, ?_, fun z _ => ?_⟩
    · rw [expOf, hmin, if_pos (by exact_mod_cast hy)]; norm_num
    · rw [key 0 (by omega) fun t ht ht' => ?_]
      · simp [expWord]
      · constructor
        · intro h
          have : (2 : ℝ) ^ (-126 : ℤ) ≤ (2 : ℝ) ^ ((t : ℤ) - 127) := zpow_le_zpow_right₀ (by norm_num) (by omega)
          linarith
        · omega
  · have hpos : 0 < y := lt_of_lt_of_le (by positivity) hy
    have l2pos : 0 < Real.log 2 := Real.log_pos (by norm_num)
    obtain ⟨n, hn⟩ : ∃ n : ℤ, n = ⌊Real.log y * (Real.log 2)⁻¹⌋ := ⟨_, rfl⟩
    have hlog : ∀ x : ℤ, (2 : ℝ) ^ x ≤ y ↔ x ≤ n := fun x => by
      rw [hn, Int.le_floor, ← div_eq_mul_inv, le_div_iff₀ l2pos, ← Real.log_zpow]
      exact (Real.log_le_log_iff (by positivity) hpos).symm
    have hlo : -126 ≤ n := (hlog _).mp hy
    have hhi : n < 120 := by
      by_contra h
      have := (hlog 120).mpr (by omega)
      linarith
    obtain ⟨N, hN⟩ : ∃ N : ℕ, (N : ℤ) = n + 127 := ⟨(n + 127).toNat, by omega⟩
    refine ⟨n + 1, by omega, by omega, ?_, fun z hz => ?_⟩
    · rw [expOf, hmin, if_neg (by rw [EReal.coe_lt_coe_iff]; exact not_lt.mpr hy)]
      have h2 : Ideal.ofBits .f32 1073741824#32 = ((2 : ℝ) : EReal) := lit_2
      have l2 : Real.log 2 ≠ 0 := Real.log_ne_zero_of_pos_of_ne_one (by norm_num) (by norm_num)
      have e1 : Ideal.log ((y : ℝ) : EReal) = ((Real.log y : ℝ) : EReal) := if_neg (not_le.mpr hpos)
      have e2 : Ideal.log ((2 : ℝ) : EReal) = ((Real.log 2 : ℝ) : EReal) := if_neg (by norm_num)
      rw [h2, e1, e2, Ideal.div, if_neg (by exact_mod_cast l2), ← EReal.coe_inv, ← EReal.coe_mul, Ideal.liftRound_coe]
      rw [← hn]; push_cast; rfl
    · have hz' : z = false := by
        cases z
        · rfl
        · exact absurd (hz rfl) hpos.ne'
      rw [key N (by omega) fun t ht ht' => by rw [hlog]; omega, hz', expWord, if_neg]
      · apply BitVec.eq_of_toNat_eq
        simp [BitVec.toNat_sub, BitVec.toNat_ofInt]
        omega
      · intro h
        rcases h with h | h
        · exact absurd h (by decide)
        · have := congrArg BitVec.toNat h
          simp at this
          omega

end Cert.Exponent

end
-- ==== Proof.KerQK.lean ====
module

public import proofs.«01_k».proof.Proof.Spec
public import Idealize.ShloMosaic.Lib.Pointwise
public import Idealize.ShloMosaic.Lib.Pointwise.IndexVar
public import proofs.«01_k».proof.Proof.Gen.KernelIdeal.Skeleton

@[expose] public section

set_option maxRecDepth 16384

noncomputable section

/-! What the kernel's payloads for the queries and keys are, element by element. -/

namespace Cert.KernelIdeal.Val

open Cert.KernelIdeal Cert.KernelIdeal.Gen Cert.Spec
open Idealize.ShloMosaic Idealize.ShloMosaic.TcCoe Idealize.SL.Sem

/-- One head's matrix, from the block that holds it. -/
def mat (v0 : Vec Ideal S1x2048x128 .bf16) : Mat := fun r d => v0 (ix3 0 r d)

theorem mk128 (s : Fin 2048) (h : (s : ℕ) / 128 * 128 + (s : ℕ) % 128 < 2048) : (⟨(s : ℕ) / 128 * 128 + (s : ℕ) % 128, h⟩ : Fin 2048) = s :=
  Fin.ext (by show (s : ℕ) / 128 * 128 + (s : ℕ) % 128 = s; omega)
theorem mk64 (s : Fin 2048) (h : (s : ℕ) / 64 * 64 + (s : ℕ) % 64 < 2048) : (⟨(s : ℕ) / 64 * 64 + (s : ℕ) % 64, h⟩ : Fin 2048) = s :=
  Fin.ext (by show (s : ℕ) / 64 * 64 + (s : ℕ) % 64 = s; omega)

variable (v0 : Vec Ideal S1x2048x128 .bf16)

theorem k1 (g : Fin 32) (r : Fin 64) (d : Fin 128) : k0_pay1 v0 (ix3 g r d) = key (mat v0) ⟨g * 64 + r, by omega⟩ d := by
  pointwise [k0_pay1]; rfl

theorem k2 (g : Fin 32) (d : Fin 128) : k0_pay2 v0 (ix2 g d) = kscale (mat v0) g := by
  pointwise [k0_pay2]
  simp only [k1]; rfl

theorem k3 (s : Fin 2048) (d : Fin 128) : k0_pay3 v0 (ix2 s d) = kcode (mat v0) s d := by
  pointwise [k0_pay3]
  simp only [k1, k2, mk64]; rfl

theorem k4 (s : Fin 2048) (d : Fin 128) : k0_pay4 v0 (ix3 0 s d) = FloatOps.fptosi (F := Ideal) (φ := .f32) 8 (kcode (mat v0) s d) := by
  pointwise [k0_pay4]
  simp only [k3]

theorem k5 (s : Fin 2048) (d : Fin 128) : k0_pay5 v0 (ix2 s d) = kcode (mat v0) s d := by
  pointwise [k0_pay5]
  simp only [k3]

theorem k6 (A : FVec Ideal S32x128 .f32) (g : Fin 32) (d : Fin 128) : k0_pay6 A (ix2 g d) = A (ix2 g d) * (((Real.log 2)⁻¹ : ℝ) : EReal) := by
  pointwise [k0_pay6]; rfl

theorem k7 (A : FVec Ideal S32x128 .f32) (g : Fin 32) : k0_pay7 A (ix3 0 0 g) = A (ix2 g 0) := by
  pointwise [k0_pay7]

theorem q19 (g : Fin 16) (r : Fin 128) (d : Fin 128) : k0_pay19 v0 (ix3 g r d) = query (mat v0) ⟨g * 128 + r, by omega⟩ d := by
  pointwise [k0_pay19]; rfl

theorem q20 (g : Fin 16) (d : Fin 128) : k0_pay20 v0 (ix2 g d)
    = Finset.univ.fold max (Ideal.ofBits .f32 0xFF800000#32) fun r : Fin 128 => FloatOps.absf (F := Ideal) (φ := .f32) (query (mat v0) ⟨g * 128 + r, by omega⟩ d) := by
  pointwise [k0_pay20]
  simp only [q19]

theorem q21 (g : Fin 16) (d : Fin 128) : k0_pay21 (k0_pay20 v0) (ix2 g d) = qscale (mat v0) g := by
  pointwise [k0_pay21]
  simp only [q20]; rfl

theorem q22 (s : Fin 2048) (d : Fin 128) : k0_pay22 (k0_pay19 v0) (k0_pay20 v0) (ix2 s d) = qcode (mat v0) s d := by
  pointwise [k0_pay22]
  simp only [q19, q21, mk128]; rfl

theorem q23 (s : Fin 2048) (d : Fin 128) : k0_pay23 (k0_pay19 v0) (k0_pay20 v0) (ix3 0 s d) = FloatOps.fptosi (F := Ideal) (φ := .f32) 8 (qcode (mat v0) s d) := by
  pointwise [k0_pay23]
  simp only [q22]

theorem q24 (s : Fin 2048) (d : Fin 128) : k0_pay24 (k0_pay19 v0) (k0_pay20 v0) (ix2 s d) = qcode (mat v0) s d := by
  pointwise [k0_pay24]
  simp only [q22]

theorem q25 (g : Fin 16) : k0_pay25 (k0_pay20 v0) (ix3 0 0 g) = qscale (mat v0) g := by
  pointwise [k0_pay25]
  simp only [q21]

end Cert.KernelIdeal.Val

end
-- ==== Proof.KerV.lean ====
module

public import proofs.«01_k».proof.Proof.Exponent
public import proofs.«01_k».proof.Proof.KerQK

@[expose] public section

set_option maxRecDepth 16384

noncomputable section

/-! What the kernel's payloads for the values are, element by element, where the values are finite. -/

namespace Cert.KernelIdeal.Val

open Cert.KernelIdeal Cert.KernelIdeal.Gen Cert.Spec Cert.Exponent
open Idealize.ShloMosaic Idealize.ShloMosaic.TcCoe Idealize.SL.Sem

theorem lit_neginf16 : Ideal.ofBits .bf16 0xFF80#16 = ⊥ := by simp [Ideal.ofBits, Ideal.ieee, -EReal.coe_mul]
theorem lit_top16 : Ideal.ofBits .bf16 0x7F7F#16 = (((255 * 2 ^ 120 : ℝ)) : EReal) := by
  simp [Ideal.ofBits, Ideal.ieee, -EReal.coe_mul]
theorem lit_448inv : Ideal.ofBits .f32 991054117#32 = (((9586981 * (2 : ℝ) ^ (-32 : ℤ) : ℝ)) : EReal) := by
  simp [Ideal.ofBits, Ideal.ieee, -EReal.coe_mul]

/-- Every value of the matrix is finite. -/
def Fin16 (V : Mat) : Prop := ∀ r d, FloatOps.absf (F := Ideal) (φ := .bf16) (V r d) ≤ Ideal.ofBits .bf16 0x7F7F#16

/-- A lane's greatest magnitude. -/
def vmax (V : Mat) (d : Fin 128) : EReal :=
  Finset.univ.fold max (Ideal.ofBits .bf16 0xFF80#16) fun r : Fin 2048 => FloatOps.absf (F := Ideal) (φ := .bf16) (V r d)

theorem abs_nonneg (x : EReal) : 0 ≤ FloatOps.absf (F := Ideal) (φ := .bf16) x := by
  show (0 : EReal) ≤ max x (-x)
  rcases le_total 0 x with h | h
  · exact le_max_of_le_left h
  · exact le_max_of_le_right (EReal.neg_nonneg.mpr h)

/-- It is the same from either width's minus infinity, times the same constant. -/
theorem vtop_eq (V : Mat) (d : Fin 128) : vmax V d * Ideal.ofBits .f32 991054117#32 = vtop V d := by
  rw [vmax, vtop, lit_neginf, lit_neginf16]; rfl

theorem vmax_bounds (V : Mat) (h : Fin16 V) (d : Fin 128) : 0 ≤ vmax V d ∧ vmax V d ≤ ((255 * 2 ^ 120 : ℝ) : EReal) := by
  have hle := (Finset.fold_max_le (c := vmax V d) (b := Ideal.ofBits .bf16 0xFF80#16)
    (f := fun r : Fin 2048 => FloatOps.absf (F := Ideal) (φ := .bf16) (V r d)) (s := Finset.univ)).mp (le_refl _)
  refine ⟨le_trans (abs_nonneg (V 0 d)) (hle.2 0 (Finset.mem_univ _)), ?_⟩
  rw [vmax, Finset.fold_max_le, lit_neginf16]
  exact ⟨bot_le, fun r _ => lit_top16 ▸ h r d⟩

/-- The greatest magnitude over 448 is a real number, at least 0 and below `2 ^ 120`; it is 0 if the greatest magnitude is. -/
theorem vtop_real (V : Mat) (h : Fin16 V) (d : Fin 128) : ∃ y : ℝ, 0 ≤ y ∧ y < (2 : ℝ) ^ (120 : ℤ) ∧ vtop V d = (y : EReal) ∧ (vmax V d = 0 → y = 0) := by
  obtain ⟨h0, h1⟩ := vmax_bounds V h d
  rw [← vtop_eq, lit_448inv]
  generalize vmax V d = m at h0 h1 ⊢
  induction m with
  | bot => exact absurd h0 (not_le.mpr EReal.bot_lt_zero)
  | top => exact absurd h1 (not_le.mpr (EReal.coe_lt_top _))
  | coe a =>
    have a0 : 0 ≤ a := by exact_mod_cast h0
    have a1 : a ≤ 255 * 2 ^ 120 := by exact_mod_cast h1
    refine ⟨a * (9586981 * (2 : ℝ) ^ (-32 : ℤ)), by positivity, ?_, (EReal.coe_mul _ _).symm, fun e => ?_⟩
    · refine lt_of_le_of_lt (mul_le_mul_of_nonneg_right a1 (by positivity)) ?_
      norm_num
    · have : a = 0 := by exact_mod_cast e
      rw [this, zero_mul]

/-! The search, on vectors. -/

/-- One step. -/
def stepV (y : FVec Ideal S1x128 .f32) (m : BitVec 32) (b : IVec S1x128 32) : IVec S1x128 32 :=
  select (cmpf .oge y (bitcastToFloat .f32 (shli (ori b (broadcast S1x128 m)) (broadcast S1x128 23#32)))) (ori b (broadcast S1x128 m)) b

theorem stepV_apply (y : FVec Ideal S1x128 .f32) (m : BitVec 32) (b : IVec S1x128 32) (d : Fin 128) :
    stepV y m b (ix2 0 d) = step (fun w => decide (sh w ≤ y (ix2 0 d))) m (b (ix2 0 d)) := by
  unfold step sh
  simp only [decide_eq_true_eq]
  pointwise [stepV]
  rfl

/-- The last part: the exponent from the field. -/
def lastV (a : FVec Ideal S1x128 .f32) (n : IVec S1x128 32) : IVec S1x128 32 :=
  select (ori (cmpf .oeq a (broadcast S1x128 (Scalar.ofBits .f32 0x00000000#32))) (cmpi .eq n (broadcast S1x128 0#32)))
    (broadcast S1x128 0#32) (subi n (broadcast S1x128 126#32))

theorem lastV_apply (a : FVec Ideal S1x128 .f32) (n : IVec S1x128 32) (d : Fin 128) :
    lastV a n (ix2 0 d) = expWord (decide (a (ix2 0 d) = 0)) (n (ix2 0 d)) := by
  have e : lastV a n (ix2 0 d) = Scalar.select (IntOp.ori (BitVec.ofBool (decide (a (ix2 0 d) = Ideal.ofBits .f32 0#32))) (IntOp.cmpi .eq (n (ix2 0 d)) 0#32)) 0#32
      (n (ix2 0 d) - 126#32) := rfl
  have e2 : IntOp.cmpi .eq (n (ix2 0 d)) 0#32 = BitVec.ofBool (decide (n (ix2 0 d) = 0#32)) := rfl
  rw [e, e2, lit_0, expWord]
  by_cases h1 : a (ix2 0 d) = 0 <;> by_cases h2 : n (ix2 0 d) = 0#32 <;> simp [h1, h2] <;> rfl

theorem e12_eq (v : Vec Ideal S1x2048x128 .bf16) : k0_pay12 (k0_pay9 v) (k0_pay10 v) (k0_pay11 v)
    = lastV (k0_pay9 v) (stepV (k0_pay10 v) 1#32 (stepV (k0_pay10 v) 2#32 (stepV (k0_pay10 v) 4#32 (stepV (k0_pay10 v) 8#32 (stepV (k0_pay10 v) 16#32
      (stepV (k0_pay10 v) 32#32 (stepV (k0_pay10 v) 64#32 (stepV (k0_pay10 v) 128#32 (broadcast S1x128 0#32))))))))) := rfl

theorem e12_search (v : Vec Ideal S1x2048x128 .bf16) (d : Fin 128) : k0_pay12 (k0_pay9 v) (k0_pay10 v) (k0_pay11 v) (ix2 0 d)
    = expWord (decide (k0_pay9 v (ix2 0 d) = 0)) (search fun w => decide (sh w ≤ k0_pay10 v (ix2 0 d))) := by
  rw [e12_eq, lastV_apply]
  simp only [stepV_apply]
  rfl

/-! The greatest magnitudes. -/

theorem v8 (v : Vec Ideal S1x2048x128 .bf16) (r : Fin 2048) (d : Fin 128) : k0_pay8 v (ix2 r d) = mat v r d := by
  pointwise [k0_pay8]; rfl

theorem red0 (A : FVec Ideal S2048x128 .bf16) (d : Fin 128) :
    (multiReduction .maximumf [0] S128 A 0xFF80#16 reduces_S2048x128_S128 (.inr rfl) rfl) (ix1 d)
      = Finset.univ.fold max (Ideal.ofBits .bf16 0xFF80#16) fun r : Fin 2048 => A (ix2 r d) := by
  pointwise

theorem widen (A : FVec Ideal S128 .bf16) (d : Fin 128) : (extf .f32 (shapeCast S1x128 A shapeCasts_S128_S1x128) bitsLt_bf16_f32 : FVec Ideal S1x128 .f32) (ix2 0 d) = A (ix1 d) := by
  pointwise

theorem v9 (v : Vec Ideal S1x2048x128 .bf16) (d : Fin 128) : k0_pay9 v (ix2 0 d) = vmax (mat v) d := by
  have e : k0_pay9 v = extf .f32 (shapeCast S1x128 (multiReduction .maximumf [0] S128 (absf (k0_pay8 v)) 0xFF80#16 reduces_S2048x128_S128 (.inr rfl) rfl)
      shapeCasts_S128_S1x128) bitsLt_bf16_f32 := rfl
  have ha : ∀ r : Fin 2048, absf (k0_pay8 v) (ix2 r d) = FloatOps.absf (F := Ideal) (φ := .bf16) (mat v r d) :=
    fun r => congrArg (FloatOps.absf (F := Ideal) (φ := .bf16)) (v8 v r d)
  rw [e, widen, red0, vmax]
  simp only [ha]

theorem mulc (A : FVec Ideal S1x128 .f32) (i : S1x128.Idx) :
    mulf A (broadcast S1x128 (Scalar.ofBits .f32 0x3B124925#32)) i = A i * Ideal.ofBits .f32 991054117#32 := rfl

theorem v10 (v : Vec Ideal S1x2048x128 .bf16) (d : Fin 128) : k0_pay10 v (ix2 0 d) = vtop (mat v) d := by
  have e : k0_pay10 v = mulf (k0_pay9 v) (broadcast S1x128 (Scalar.ofBits .f32 0x3B124925#32)) := rfl
  rw [e, mulc, v9, vtop_eq]

/-- The exponent's word. -/
abbrev eword (v : Vec Ideal S1x2048x128 .bf16) : IVec S1x128 32 := k0_pay12 (k0_pay9 v) (k0_pay10 v) (k0_pay11 v)

theorem eword_apply (v : Vec Ideal S1x2048x128 .bf16) (h : Fin16 (mat v)) (d : Fin 128) :
    ∃ e : ℤ, -126 ≤ e ∧ e ≤ 120 ∧ vexp (mat v) d = ((e : ℝ) : EReal) ∧ eword v (ix2 0 d) = BitVec.ofInt 32 e := by
  obtain ⟨y, y0, y1, hy, hz⟩ := vtop_real (mat v) h d
  obtain ⟨e, e0, e1, he, hs⟩ := exists_exp y y0 y1
  refine ⟨e, e0, e1, by rw [vexp, hy, he], ?_⟩
  rw [eword, e12_search, v10, v9, hy]
  exact hs _ fun h => hz (of_decide_eq_true h)

theorem exp2_int (e : ℤ) : Ideal.exp2 ((e : ℝ) : EReal) = (((2 : ℝ) ^ e : ℝ) : EReal) := by
  show (((2 : ℝ) ^ (e : ℝ) : ℝ) : EReal) = _
  rw [Real.rpow_intCast]

/-- A word shifted into the field gives the power of two. -/
theorem sh_int (e : ℤ) (h : -126 ≤ e) (h' : e ≤ 127) : sh (BitVec.ofInt 32 (e + 127)) = (((2 : ℝ) ^ e : ℝ) : EReal) := by
  obtain ⟨N, hN⟩ : ∃ N : ℕ, (N : ℤ) = e + 127 := ⟨(e + 127).toNat, by omega⟩
  rw [← hN, BitVec.ofInt_natCast, sh_ofNat N (by omega) (by omega), hN, add_sub_cancel_right]

theorem v14 (E : IVec S1x128 32) (d : Fin 128) : k0_pay14 (F := Ideal) E k0_pay13 (ix2 0 d) = sh (E (ix2 0 d) + 127#32) := rfl

theorem v14_apply (v : Vec Ideal S1x2048x128 .bf16) (h : Fin16 (mat v)) (d : Fin 128) : k0_pay14 (F := Ideal) (eword v) k0_pay13 (ix2 0 d) = vscale (mat v) d := by
  obtain ⟨e, e0, e1, he, hw⟩ := eword_apply v h d
  rw [v14, hw, vscale, he, exp2_int, ← sh_int e e0 (by omega), BitVec.ofInt_add]; rfl

theorem v18_apply (v : Vec Ideal S1x2048x128 .bf16) (h : Fin16 (mat v)) (d : Fin 128) : k0_pay18 (F := Ideal) (eword v) k0_pay13 (ix3 0 0 d) = vscale (mat v) d := by
  rw [← v14_apply v h d]
  pointwise [k0_pay18]

theorem v15 (B : FVec Ideal S2048x128 .bf16) (E : IVec S1x128 32) (r : Fin 2048) (d : Fin 128) :
    k0_pay15 B E (ix2 r d) = cl (B (ix2 r d) * sh (127#32 - E (ix2 0 d))) := by
  unfold cl sh
  pointwise [k0_pay15]
  rfl

theorem v15_apply (v : Vec Ideal S1x2048x128 .bf16) (h : Fin16 (mat v)) (r : Fin 2048) (d : Fin 128) : k0_pay15 (k0_pay8 v) (eword v) (ix2 r d) = vcode (mat v) r d := by
  obtain ⟨e, e0, e1, he, hw⟩ := eword_apply v h d
  have h1 : 127#32 - BitVec.ofInt 32 e = BitVec.ofInt 32 (-e + 127) := by
    have h0 : (127#32 : BitVec 32) = BitVec.ofInt 32 (-e + 127) + BitVec.ofInt 32 e := by
      rw [← BitVec.ofInt_add, show -e + 127 + e = 127 by ring]; rfl
    rw [h0, BitVec.add_sub_cancel]
  have h2 : (0 : EReal) - ((e : ℝ) : EReal) = (((-e : ℤ) : ℝ) : EReal) := by
    rw [zero_sub]; push_cast; rfl
  rw [v15, v8, hw, vcode, he, h1, h2, exp2_int, sh_int (-e) (by omega) (by omega)]

theorem v16_apply (v : Vec Ideal S1x2048x128 .bf16) (h : Fin16 (mat v)) (r : Fin 2048) (d : Fin 128) :
    k0_pay16 (k0_pay8 v) (eword v) (ix3 0 r d) = vcode (mat v) r d := by
  rw [← v15_apply v h r d]
  pointwise [k0_pay16]

theorem v17_apply (v : Vec Ideal S1x2048x128 .bf16) (h : Fin16 (mat v)) (r : Fin 2048) (d : Fin 128) :
    k0_pay17 (k0_pay8 v) (eword v) (ix2 d r) = vcode (mat v) r d := by
  rw [← v15_apply v h r d]
  pointwise [k0_pay17]

/-- A lane's scale is a positive real number. -/
theorem vscale_pos (V : Mat) (h : Fin16 V) (d : Fin 128) : ∃ s : ℝ, 0 < s ∧ vscale V d = (s : EReal) := by
  obtain ⟨y, y0, y1, hy, hz⟩ := vtop_real V h d
  obtain ⟨e, e0, e1, he, hs⟩ := exists_exp y y0 y1
  exact ⟨(2 : ℝ) ^ e, by positivity, by rw [vscale, vexp, hy, he, exp2_int]⟩

end Cert.KernelIdeal.Val

end
-- ==== Proof.KerBlock.lean ====
module

public import proofs.«01_k».proof.Proof.Bridge
public import proofs.«01_k».proof.Proof.Block
public import proofs.«01_k».proof.Proof.Softmax
public import proofs.«01_k».proof.Proof.KerV
public import Idealize.ShloMosaic.Lib.Pipeline.ValueKit.Basic

@[expose] public section

set_option maxRecDepth 16384

noncomputable section

/-! A block of the attention, from the three blocks that a grid point loads. -/

namespace Cert.KernelIdeal.Val

open Cert.KernelIdeal Cert.KernelIdeal.Gen Cert.Spec
open Idealize.ShloMosaic Idealize.ShloMosaic.TcCoe Idealize.SL.Sem
open kernelRun.sl

/-- The product of codes. -/
theorem mm_apply (n : ℕ) (wf) (A : FVec Ideal ⟨2, ![n, 128]⟩ .bf16) (B : FVec Ideal S256x128 .bf16) (k : Fin n) (q : Fin 256) :
    matmul (F := Ideal) (dotN n wf) none A B (constant _ .f32 0x00000000#32) (ix2 k q) = ∑ d : Fin 128, A (ix2 k d) * B (ix2 q d) := by
  pointwise

/-- A load of some rows of a buffer that was stored whole. -/
theorem rows_apply {N W n o w' : ℕ} {e : EltTy} (M : Memref sig .tc .vmem ⟨2, ![N, W]⟩ e) (w : (⟨2, ![N, W]⟩ : Shape).Idx → Elt Ideal e)
    (h0 : ∀ a, (![0, 0] : Fin 2 → ℕ) a + (⟨2, ![N, W]⟩ : Shape).size a ≤ (⟨2, ![N, W]⟩ : Shape).size a)
    (o' : ℕ) (h : ∀ a, (![o, o'] : Fin 2 → ℕ) a + (⟨2, ![n, w']⟩ : Shape).size a ≤ (⟨2, ![N, W]⟩ : Shape).size a) (r : Fin n) (d : Fin w')
    (hr : o + r < N) (hd : o' + d < W) :
    M.view.readCov [(⟨Rect.unit (s := ⟨2, ![N, W]⟩) ![0, 0] (⟨2, ![N, W]⟩ : Shape).size h0, w⟩ : View.Piece (Elt Ideal) ⟨2, ![N, W]⟩ e)]
      (Rect.unit (s := ⟨2, ![N, W]⟩) ![o, o'] (⟨2, ![n, w']⟩ : Shape).size h).toLoadRect (ix2 r d) = w (ix2 ⟨o + r, hr⟩ ⟨o' + d, hd⟩) := by
  rw [View.readCov_eq_canon', View.canon_cons_unit_lit h0 w [] (fun a => by fin_cases a <;> rfl)]
  show w (LoadRect.idx _ _) = _
  congr 1
  funext x; apply Fin.ext
  fin_cases x
  · show o + 1 * (r : ℕ) = o + r; omega
  · show o' + 1 * (d : ℕ) = o' + d; omega

/-- Token `n`; `n` is below 2048 wherever this is used. -/
def tk (n : ℕ) : Fin 2048 := ⟨n % 2048, Nat.mod_lt _ (by decide)⟩

theorem tk_of_lt {n : ℕ} (h : n < 2048) : tk n = ⟨n, h⟩ := Fin.ext (Nat.mod_eq_of_lt h)

/-- Group `n` of the keys, and of the queries. -/
def gk (n : ℕ) : Fin 32 := ⟨n % 32, Nat.mod_lt _ (by decide)⟩
def gq (n : ℕ) : Fin 16 := ⟨n % 16, Nat.mod_lt _ (by decide)⟩

theorem gk_of_lt {n : ℕ} (h : n < 32) : gk n = ⟨n, h⟩ := Fin.ext (Nat.mod_eq_of_lt h)
theorem gq_of_lt {n : ℕ} (h : n < 16) : gq n = ⟨n, h⟩ := Fin.ext (Nat.mod_eq_of_lt h)

/-- Lane `n`. -/
def ln (n : ℕ) : Fin 128 := ⟨n % 128, Nat.mod_lt _ (by decide)⟩

theorem ln_val (d : Fin 128) : ln d = d := Fin.ext (Nat.mod_eq_of_lt d.2)

/-- BLOCK `i` OF THE ATTENTION. -/
theorem block_value (arg16 : Memref sig .tc .vmem S2x2048x256 .f32) (X K V : Mat) (hV16 : Fin16 V) (i : ℕ) (hi : i < 8)
    (s : FVec Ideal ⟨2, ![256 * (i + 1), 256]⟩ .f32) (kl : (g : ℕ) → g < 32 → FVec Ideal S1x256 .f32) (qsl : FVec Ideal S1x256 .f32)
    (vt : (j : ℕ) → j < 8 → FVec Ideal S128x256 .fp8e4m3) (vs : FVec Ideal S1x128 .f32) (rest : List (View.Piece (Elt Ideal) S2x2048x256 .f32))
    (hS : ∀ (k : Fin (256 * (i + 1))) (q : Fin 256), s (ix2 k q) = ∑ d, kcode K ⟨k, by omega⟩ d * qcode X ⟨256 * i + q, by omega⟩ d)
    (hK : ∀ g (hg : g < 32) (q : Fin 256), kl g hg (ix2 0 q) = kscale K ⟨g, hg⟩ * (Softmax.L : EReal))
    (hQ : ∀ q : Fin 256, qsl (ix2 0 q) = qscale X ⟨(256 * i + q) / 128, by omega⟩)
    (hV : ∀ j (hj : j < 8) (d : Fin 128) (t : Fin 256), vt j hj (ix2 d t) = vcode V ⟨256 * j + t, by omega⟩ d)
    (hvs : ∀ d, vs (ix2 0 d) = vscale V d) (q : Fin 256) (d : Fin 128) :
    blockOut arg16 i hi s kl qsl vt vs rest (ix3 0 q d) = out X K V ⟨256 * i + q, by omega⟩ d := by
  obtain ⟨S, eS⟩ : ∃ S : ℕ → ℕ → EReal, S = fun k q => ∑ d, kcode K (tk k) d * qcode X (tk (256 * i + q)) d := ⟨_, rfl⟩
  obtain ⟨KL, eKL⟩ : ∃ KL : ℕ → EReal, KL = fun g => kscale K (gk g) * (Softmax.L : EReal) := ⟨_, rfl⟩
  obtain ⟨QL, eQL⟩ : ∃ QL : ℕ → EReal, QL = fun q => qscale X (gq ((256 * i + q) / 128)) := ⟨_, rfl⟩
  obtain ⟨VV, eVV⟩ : ∃ VV : ℕ → ℕ → EReal, VV = fun d k => vcode V (tk k) (ln d) := ⟨_, rfl⟩
  obtain ⟨sv, sv0, hsv⟩ := vscale_pos V hV16 d
  obtain ⟨M, hM, hEq⟩ := Softmax.attention (rscore X K ⟨256 * i + q, by omega⟩) (fun k => vcode V k d)
    (fun k => score S KL QL (256 * i) k q) (VV d) (256 * (i + 1)) (by omega) sv sv0
    (fun k hk => by
      show score S KL QL (256 * i) k q = _
      rw [score, rscore]
      by_cases hc : (k : ℕ) ≤ 256 * i + q
      · rw [if_pos hc, if_pos hc, eS, eKL, eQL]
        show (∑ d, kcode K (tk k) d * qcode X (tk (256 * i + q)) d) * (kscale K (gk (k / 64)) * (Softmax.L : EReal) * qscale X (gq ((256 * i + q) / 128))) = _
        rw [tk_of_lt k.2, tk_of_lt (show 256 * i + (q : ℕ) < 2048 by omega), gk_of_lt (show (k : ℕ) / 64 < 32 by omega),
          gq_of_lt (show (256 * i + (q : ℕ)) / 128 < 16 by omega), Finset.sum_congr rfl fun d _ => mul_comm (kcode K k d) _]
        show _ * (_ * _ * _) = _ * (_ * _ * _)
        generalize (∑ d, qcode X ⟨256 * i + q, _⟩ d * kcode K k d) = a
        generalize kscale K _ = b
        generalize qscale X _ = c
        rw [mul_comm b, mul_assoc (Softmax.L : EReal) b c, mul_left_comm a, mul_assoc a c b, mul_comm b c]
      · rw [if_neg hc, if_neg hc, Softmax.L_mul_bot])
    (fun k hk => by
      rw [rscore, if_neg]
      show ¬ ((k : ℕ) ≤ 256 * i + q)
      omega)
    (fun k => by rw [eVV]; show vcode V (tk k) (ln d) = _; rw [tk_of_lt k.2, ln_val])
  rw [blockOut_apply arg16 i hi s kl qsl vt vs rest S KL QL VV
    (fun k q => by rw [hS, eS]; show _ = ∑ d, kcode K (tk k) d * qcode X (tk (256 * i + q)) d; rw [tk_of_lt (show (k : ℕ) < 2048 by omega), tk_of_lt (show 256 * i + (q : ℕ) < 2048 by omega)])
    (fun g hg q => by rw [hK, eKL]; show _ = kscale K (gk g) * _; rw [gk_of_lt hg])
    (fun q => by rw [hQ, eQL]; show _ = qscale X (gq ((256 * i + q) / 128)); rw [gq_of_lt])
    (fun j hj d t => by rw [hV, eVV]; show _ = vcode V (tk (256 * j + t)) (ln d); rw [tk_of_lt (show 256 * j + (t : ℕ) < 2048 by omega), ln_val])
    q d M hM, hvs, hsv, hEq, out, hsv]

section Instances

variable (c : Dev nD) (arg2 : Memref sig .tc .vmem S1x2048x128 .bf16) (arg3 : Memref sig .tc .vmem S1x2048x128 .bf16) (arg4 : Memref sig .tc .vmem S1x2048x128 .bf16) (arg12 : Memref sig .tc .vmem S2048x128 .bf16) (arg13 : Memref sig .tc .vmem S2048x128 .bf16) (arg14 : Memref sig .tc .vmem S128x2048 .fp8e4m3) (arg15 : Memref sig .tc .vmem S32x128 .f32) (arg16 : Memref sig .tc .vmem S2x2048x256 .f32)
  (f2 : Bf Ideal c arg2) (f3 : Bf Ideal c arg3) (f4 : Bf Ideal c arg4)

theorem sV_apply (i : ℕ) (hi : i < 8) (wf) (k : Fin (256 * (i + 1))) (q : Fin 256) :
    sV c arg2 arg3 arg12 arg13 f2 f3 i hi wf (ix2 k q) = ∑ d, kcode (mat (ldV arg3 f3)) ⟨k, by omega⟩ d * qcode (mat (ldV arg2 f2)) ⟨256 * i + q, by omega⟩ d := by
  rw [sV, mm_apply]
  refine Finset.sum_congr rfl fun d _ => ?_
  congr 1
  · refine (rows_apply arg13 _ _ 0 _ k d (by omega) (by omega)).trans ?_
    rw [b38]
    refine (k5 _ _ _).trans ?_
    congr 1
    · exact Fin.ext (Nat.zero_add _)
    · exact Fin.ext (Nat.zero_add _)
  · refine (rows_apply arg12 _ _ 0 _ q d (by omega) (by omega)).trans ?_
    rw [b190]
    refine (q24 _ _ _).trans ?_
    congr 1
    exact Fin.ext (Nat.zero_add _)

theorem twice (A B : FVec Ideal S1x128 .f32) (q : Fin 256) :
    concatenate S1x256 1 [⟨S1x128, A⟩, ⟨S1x128, B⟩] concatenates_S1x128_S1x128_S1x256_d1 (ix2 0 q)
      = if h : (q : ℕ) < 128 then A (ix2 0 ⟨q, h⟩) else B (ix2 0 ⟨q - 128, by omega⟩) := by
  pointwise

theorem klV_apply (g : ℕ) (hg : g < 32) (q : Fin 256) :
    klV c arg3 arg15 f3 g hg (ix2 0 q) = kscale (mat (ldV arg3 f3)) ⟨g, hg⟩ * (Softmax.L : EReal) := by
  have e : ∀ d : Fin 128, arg15.view.readCov (H15_1 c arg3 f3) (Rect.unit (s := S32x128) ![g, 0] S1x128.size (inb_row hg)).toLoadRect (ix2 0 d)
      = kscale (mat (ldV arg3 f3)) ⟨g, hg⟩ * (Softmax.L : EReal) := fun d => by
    refine (rows_apply arg15 _ _ 0 _ (0 : Fin 1) d (by show g + 0 < 32; omega) (by omega)).trans ?_
    rw [k6, b21]
    congr 1
    exact (k2 _ _ _).trans rfl
  rw [klV, twice]
  split
  · exact e _
  · exact e _

theorem qV_apply (i : ℕ) (hi : i < 8) (q : Fin 256) : qV c arg2 f2 i hi (ix2 0 q) = qscale (mat (ldV arg2 f2)) ⟨(256 * i + q) / 128, by omega⟩ := by
  have e : ∀ g (hg : g < 16) (d : Fin 128), extractStridedSlice S1x128 ![g, 0] (v173 c arg2 f2) (slices_row hg) (ix2 0 d) = qscale (mat (ldV arg2 f2)) ⟨g, hg⟩ := fun g hg d => by
    have e0 : extractStridedSlice S1x128 ![g, 0] (v173 c arg2 f2) (slices_row hg) (ix2 0 d) = v173 c arg2 f2 (ix2 ⟨g, hg⟩ d) := by
      pointwise
    rw [e0, b173, q21]
  rw [qV, twice]
  split
  · rw [e _ (by omega)]; congr 1; apply Fin.ext; show 2 * i = (256 * i + (q : ℕ)) / 128; omega
  · rw [e _ (by omega)]; congr 1; apply Fin.ext; show 2 * i + 1 = (256 * i + (q : ℕ)) / 128; omega

variable (h16 : Fin16 (mat (ldV arg4 f4)))
include h16

theorem vtV_apply (j : ℕ) (hj : j < 8) (d : Fin 128) (t : Fin 256) :
    vtV c arg4 arg14 f4 j hj (ix2 d t) = vcode (mat (ldV arg4 f4)) ⟨256 * j + t, by omega⟩ d := by
  rw [vtV]
  refine (rows_apply arg14 _ _ (256 * j) _ d t (by omega) (by omega)).trans ?_
  rw [b151, b123]
  refine (v17_apply _ h16 _ _).trans ?_
  congr 1
  exact Fin.ext (Nat.zero_add _)

/-- What each block holds. -/
theorem isBlock_apply {i : ℕ} {hi : i < 8} {o : FVec Ideal S1x256x128 .bf16} (ho : IsBlock c arg2 arg3 arg4 arg12 arg13 arg14 arg15 arg16 f2 f3 f4 i hi o)
    (q : Fin 256) (d : Fin 128) :
    o (ix3 0 q d) = out (mat (ldV arg2 f2)) (mat (ldV arg3 f3)) (mat (ldV arg4 f4)) ⟨256 * i + q, by omega⟩ d := by
  obtain ⟨wf, rest, rfl⟩ := ho
  exact block_value arg16 _ _ _ h16 i hi _ _ _ _ _ rest (sV_apply c arg2 arg3 arg12 arg13 f2 f3 i hi wf) (klV_apply c arg3 arg15 f3)
    (qV_apply c arg2 f2 i hi) (vtV_apply c arg4 arg14 f4 h16) (fun d => by rw [b128, b123]; exact v14_apply _ h16 d) q d

end Instances

end Cert.KernelIdeal.Val

end
-- ==== Proof.KerLeaves.lean ====
module

public import proofs.«01_k».proof.Proof.KerBlock
public import proofs.«01_k».proof.Proof.Body
public import Idealize.ShloMosaic.Lib.WritesUnit
public import Idealize.ShloMosaic.Lib.VecWindow
public import Idealize.ShloMosaic.Lib.WholeRead

@[expose] public section

set_option maxRecDepth 16384

noncomputable section

/-! What one grid point leaves in each result's staging buffer, from its blocks of queries, keys and values. -/

namespace Cert.KernelIdeal.Val

open Cert.KernelIdeal Cert.KernelIdeal.Gen Cert.KernelIdeal.Val.kernelRun.sl Cert.Spec
open Idealize.ShloMosaic Idealize.ShloMosaic.TcCoe Idealize.SL.Sem

section Names

variable {F : FTy → Type} [FloatOps F] [Named F] (c : Dev nD) (t : Fin cfg0.N) (x k v : S1x2048x128.Idx → Elt F .bf16)

/-! The run's writes by their names. -/

theorem run3 : (runAt c t x k v).1.1 = H5_8 c (ms0_0 t) (ms0_1 t) (ms0_2 t) scM0_0 scM0_1 scM0_2 scM0_3 scM0_4 ((hs0_0 t).unread x) ((hs0_1 t).unread k) ((hs0_2 t).unread v) := rfl
theorem run4 : (runAt c t x k v).1.2.1 = H6_1 c (ms0_0 t) ((hs0_0 t).unread x) := rfl
theorem run5 : (runAt c t x k v).1.2.2.1 = H7_1 c (grid0.coords t) (ms0_0 t) ((hs0_0 t).unread x) := rfl
theorem run6 : (runAt c t x k v).1.2.2.2.1 = H8_1 c (ms0_1 t) ((hs0_1 t).unread k) := rfl
theorem run7 : (runAt c t x k v).1.2.2.2.2.1 = H9_1 c (grid0.coords t) (ms0_1 t) ((hs0_1 t).unread k) := rfl
theorem run8 : (runAt c t x k v).1.2.2.2.2.2.1 = H10_1 c (ms0_2 t) ((hs0_2 t).unread v) := rfl
theorem run9 : (runAt c t x k v).1.2.2.2.2.2.2 = H11_1 c (grid0.coords t) (ms0_2 t) ((hs0_2 t).unread v) := rfl

/-- The block a window's buffer holds is what was put there. -/
theorem ldV_unread {M : Memref sig .tc .vmem S1x2048x128 .bf16} (h : M.IsWhole) : ldV (c := c) M (h.unread x) = x :=
  (View.readAt_full _ _ _).trans (h.read_unread x)

end Names

variable (c : Dev nD) (t : Fin cfg0.N) (x k v : S1x2048x128.Idx → Elt Ideal .bf16)

/-- A block of 256 rows stored over the rows below it. -/
theorem rows_step (T : Fin 2048 → Fin 128 → EReal) (i off : ℕ) (hoff : off = 256 * i) (hi : i < 8)
    (inb : ∀ a, (![0, off, 0] : Fin 3 → ℕ) a + S1x256x128.size a ≤ S1x2048x128.size a) (o : FVec Ideal S1x256x128 .bf16)
    (L : List (View.Piece (Elt Ideal) S1x2048x128 .bf16)) (ho : ∀ (q : Fin 256) d, o (ix3 0 q d) = T ⟨256 * i + q, by omega⟩ d)
    (hL : ∀ (s : Fin 2048) d, (s : ℕ) < 256 * i → View.canon L (ix3 0 s d) = T s d) (s : Fin 2048) (d : Fin 128) (hs : (s : ℕ) < 256 * (i + 1)) :
    View.canon ((⟨Rect.unit (s := S1x2048x128) ![0, off, 0] S1x256x128.size inb, o⟩ : View.Piece (Elt Ideal) S1x2048x128 .bf16) :: L) (ix3 0 s d) = T s d := by
  subst hoff
  by_cases hn : (s : ℕ) < 256 * i
  · rw [View.canon_cons_of_not_mem _ _ (by
      rw [Rect.mem_set_unit]
      intro hm
      have := (hm 1).1
      have this : 256 * i ≤ (s : ℕ) := this
      omega)]
    exact hL s d hn
  · have hx : (ix3 0 s d : S1x2048x128.Idx)
        = (Rect.unit (s := S1x2048x128) ![0, 256 * i, 0] S1x256x128.size inb).emb (ix3 (0 : Fin 1) (⟨s - 256 * i, by omega⟩ : Fin 256) d) := by
      funext a; apply Fin.ext
      fin_cases a
      · rfl
      · show (s : ℕ) = 256 * i + 1 * (s - 256 * i); omega
      · show (d : ℕ) = 0 + 1 * d; omega
    rw [hx, View.canon_cons_emb]
    refine (ho _ d).trans ?_
    congr 1
    apply Fin.ext
    show 256 * i + (s - 256 * i) = (s : ℕ)
    omega

/-- The first result's block: every query's attention. -/
theorem o3_apply (hv : Fin16 (mat v)) (s : Fin 2048) (d : Fin 128) :
    View.canon (runAt c t x k v).1.1 (ix3 0 s d) = out (mat x) (mat k) (mat v) s d := by
  rw [run3]
  have hb : ∀ {i : ℕ} {hi : i < 8} {o : FVec Ideal S1x256x128 .bf16},
      IsBlock c (ms0_0 t) (ms0_1 t) (ms0_2 t) scM0_0 scM0_1 scM0_2 scM0_3 scM0_4 ((hs0_0 t).unread x) ((hs0_1 t).unread k) ((hs0_2 t).unread v) i hi o →
      ∀ (q : Fin 256) d, o (ix3 0 q d) = out (mat x) (mat k) (mat v) ⟨256 * i + q, by omega⟩ d := fun {i hi o} ho q d => by
    have := isBlock_apply c (ms0_0 t) (ms0_1 t) (ms0_2 t) scM0_0 scM0_1 scM0_2 scM0_3 scM0_4 ((hs0_0 t).unread x) ((hs0_1 t).unread k) ((hs0_2 t).unread v)
      (by rw [ldV_unread]; exact hv) ho q d
    rw [ldV_unread, ldV_unread, ldV_unread] at this
    exact this
  unfold H5_8
  refine rows_step _ 7 _ rfl (by omega) _ _ _ (hb (block_7 ..)) (fun s d hs => ?_) s d (by omega)
  unfold H5_7
  refine rows_step _ 6 _ rfl (by omega) _ _ _ (hb (block_6 ..)) (fun s d hs => ?_) s d hs
  unfold H5_6
  refine rows_step _ 5 _ rfl (by omega) _ _ _ (hb (block_5 ..)) (fun s d hs => ?_) s d hs
  unfold H5_5
  refine rows_step _ 4 _ rfl (by omega) _ _ _ (hb (block_4 ..)) (fun s d hs => ?_) s d hs
  unfold H5_4
  refine rows_step _ 3 _ rfl (by omega) _ _ _ (hb (block_3 ..)) (fun s d hs => ?_) s d hs
  unfold H5_3
  refine rows_step _ 2 _ rfl (by omega) _ _ _ (hb (block_2 ..)) (fun s d hs => ?_) s d hs
  unfold H5_2
  refine rows_step _ 1 _ rfl (by omega) _ _ _ (hb (block_1 ..)) (fun s d hs => ?_) s d hs
  unfold H5_1
  exact rows_step _ 0 _ rfl (by omega) _ _ _ (hb (block_0 ..)) (fun s d hs => absurd hs (by omega)) s d hs

/-- A block stored whole. -/
theorem whole_canon {e : EltTy} (inb : ∀ a, (![0, 0, 0] : Fin 3 → ℕ) a + S1x2048x128.size a ≤ S1x2048x128.size a) (o : S1x2048x128.Idx → Elt Ideal e) :
    View.canon [(⟨Rect.unit (s := S1x2048x128) ![0, 0, 0] S1x2048x128.size inb, o⟩ : View.Piece (Elt Ideal) S1x2048x128 e)] = o :=
  View.canon_cons_unit_lit inb o [] (by decide)

/-- The second: the queries' codes. -/
theorem o4_apply (s : Fin 2048) (d : Fin 128) :
    View.canon (runAt c t x k v).1.2.1 (ix3 0 s d) = FloatOps.fptosi (F := Ideal) (φ := .f32) 8 (qcode (mat x) s d) := by
  rw [run4]
  unfold H6_1
  rw [whole_canon, b186, ldV_unread]
  exact q23 x s d

/-- The fourth: the keys' codes. -/
theorem o6_apply (s : Fin 2048) (d : Fin 128) :
    View.canon (runAt c t x k v).1.2.2.2.1 (ix3 0 s d) = FloatOps.fptosi (F := Ideal) (φ := .f32) 8 (kcode (mat k) s d) := by
  rw [run6]
  unfold H8_1
  rw [whole_canon, b34, ldV_unread]
  exact k4 k s d

/-- The sixth: the values' codes. -/
theorem o8_apply (hv : Fin16 (mat v)) (s : Fin 2048) (d : Fin 128) :
    View.canon (runAt c t x k v).1.2.2.2.2.2.1 (ix3 0 s d) = vcode (mat v) s d := by
  rw [run8]
  unfold H10_1
  rw [whole_canon, b146, b123, ldV_unread]
  exact v16_apply v hv s d

/-- The grid's second coordinate is the head. -/
theorem coord_head : ∀ t : Fin cfg0.N, (grid0.coords t 1).val = t.val % 8 := by decide +kernel

/-- One row written over contents `Y`. -/
theorem row_put {n : ℕ} {M : Memref sig .tc .vmem ⟨3, ![1, 8, n]⟩ .f32} (hM : M.IsWhole) (Y : (⟨3, ![1, 8, n]⟩ : Shape).Idx → Elt Ideal .f32)
    (off : Fin 3 → ℕ) (r : ℕ) (hoff : off = ![0, r, 0])
    (inb : ∀ a, off a + (⟨3, ![1, 1, n]⟩ : Shape).size a ≤ (⟨3, ![1, 8, n]⟩ : Shape).size a) (o : (⟨3, ![1, 1, n]⟩ : Shape).Idx → Elt Ideal .f32)
    (h : Fin 8) (g : Fin n) :
    M.view.read (Elt Ideal) (M.view.writes (Elt Ideal) (hM.unread Y)
        [(⟨Rect.unit (s := ⟨3, ![1, 8, n]⟩) off (⟨3, ![1, 1, n]⟩ : Shape).size inb, o⟩ : View.Piece (Elt Ideal) ⟨3, ![1, 8, n]⟩ .f32)]) (ix3 0 h g)
      = if (h : ℕ) = r then o (ix3 0 0 g) else Y (ix3 0 h g) := by
  split
  · next e =>
    refine View.read_writes_cons_unit_of_mem (s := ⟨3, ![1, 8, n]⟩) (off := off) (off' := ![0, r, 0]) _ _ inb o [] _ (ix3 0 0 g) hoff fun a => ?_
    fin_cases a
    · rfl
    · show (h : ℕ) = r + 0; omega
    · show (g : ℕ) = 0 + g; omega
  · next e =>
    refine (View.read_writes_cons_unit_of_not_mem (s := ⟨3, ![1, 8, n]⟩) (off := off) (off' := ![0, r, 0]) _ _ inb o [] _ hoff 1 ?_).trans ?_
    · show (h : ℕ) < r ∨ r + 1 ≤ (h : ℕ); omega
    · rw [View.writes_nil, hM.read_unread]

/-- The third result: the head's row of query scales. -/
theorem o5_apply (Y : S1x8x16.Idx → Elt Ideal .f32) (h : Fin 8) (g : Fin 16) :
    (ms0_5 t).view.read (Elt Ideal) ((ms0_5 t).view.writes (Elt Ideal) ((hs0_5 t).unread Y) (runAt c t x k v).1.2.2.1) (ix3 0 h g)
      = if (h : ℕ) = t.val % 8 then qscale (mat x) g else Y (ix3 0 h g) := by
  rw [run5]
  unfold H7_1
  refine (row_put (hs0_5 t) Y _ (t.val % 8) ((k0_off3_eq _).trans (by rw [coord_head])) _ _ h g).trans ?_
  rw [b196, ldV_unread, q25]

/-- The fifth: the head's row of key scales. -/
theorem o7_apply (Y : S1x8x32.Idx → Elt Ideal .f32) (h : Fin 8) (g : Fin 32) :
    (ms0_7 t).view.read (Elt Ideal) ((ms0_7 t).view.writes (Elt Ideal) ((hs0_7 t).unread Y) (runAt c t x k v).1.2.2.2.2.1) (ix3 0 h g)
      = if (h : ℕ) = t.val % 8 then kscale (mat k) g else Y (ix3 0 h g) := by
  rw [run7]
  unfold H9_1
  refine (row_put (hs0_7 t) Y _ (t.val % 8) ((k0_off1_eq _).trans (by rw [coord_head])) _ _ h g).trans ?_
  rw [k7, b21, ldV_unread, k2]

/-- The seventh: the head's row of value scales. -/
theorem o9_apply (hv : Fin16 (mat v)) (Y : S1x8x128.Idx → Elt Ideal .f32) (h : Fin 8) (d : Fin 128) :
    (ms0_9 t).view.read (Elt Ideal) ((ms0_9 t).view.writes (Elt Ideal) ((hs0_9 t).unread Y) (runAt c t x k v).1.2.2.2.2.2.2) (ix3 0 h d)
      = if (h : ℕ) = t.val % 8 then vscale (mat v) d else Y (ix3 0 h d) := by
  rw [run9]
  unfold H11_1
  refine (row_put (hs0_9 t) Y _ (t.val % 8) ((k0_off2_eq _).trans (by rw [coord_head])) _ _ h d).trans ?_
  rw [b155, b123, ldV_unread, v18_apply v hv]

end Cert.KernelIdeal.Val

end
-- ==== Proof.KerArrays.lean ====
module

public import proofs.«01_k».proof.Proof.KerLeaves
public import Idealize.ShloMosaic.Lib.Pipeline.ValueKit

@[expose] public section

set_option maxRecDepth 16384

noncomputable section

/-! What the kernel's seven result arrays hold after the run. -/

namespace Cert.KernelIdeal.Val

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg) (c : Dev nD)

/-- The batch and the head of a grid point. -/
def bt (t : Fin cfg0.N) : Fin 8 := ⟨t.val / 8, by have : t.val < 64 := t.isLt; omega⟩
def hd (t : Fin cfg0.N) : Fin 8 := ⟨t.val % 8, by omega⟩

theorem index_0 : ∀ t : Fin cfg0.N, win0_0.index t = ![t.val / 8, 0, t.val % 8] := by decide +kernel
theorem index_1 : ∀ t : Fin cfg0.N, win0_1.index t = ![t.val / 8, 0, t.val % 8] := by decide +kernel
theorem index_2 : ∀ t : Fin cfg0.N, win0_2.index t = ![t.val / 8, 0, t.val % 8] := by decide +kernel
theorem index_3 : ∀ t : Fin cfg0.N, win0_3.index t = ![t.val / 8, 0, t.val % 8] := by decide +kernel
theorem index_4 : ∀ t : Fin cfg0.N, win0_4.index t = ![t.val / 8, 0, t.val % 8] := by decide +kernel
theorem index_5 : ∀ t : Fin cfg0.N, win0_5.index t = ![t.val / 8, 0, 0] := by decide +kernel
theorem index_6 : ∀ t : Fin cfg0.N, win0_6.index t = ![t.val / 8, 0, t.val % 8] := by decide +kernel
theorem index_7 : ∀ t : Fin cfg0.N, win0_7.index t = ![t.val / 8, 0, 0] := by decide +kernel
theorem index_8 : ∀ t : Fin cfg0.N, win0_8.index t = ![t.val / 8, 0, t.val % 8] := by decide +kernel
theorem index_9 : ∀ t : Fin cfg0.N, win0_9.index t = ![t.val / 8, 0, 0] := by decide +kernel

/-- The input blocks of a point are its head's matrices. -/
theorem mat_0 (t : Fin cfg0.N) : mat (iblk m c 0 t) = head (m ((c : Thread nD τ).loc main_arg0)) (bt t) (hd t) := by
  funext r d
  unfold mat head bt hd
  blk_ext [iblk, V, index_0]
theorem mat_1 (t : Fin cfg0.N) : mat (iblk m c 1 t) = head (m ((c : Thread nD τ).loc main_arg1)) (bt t) (hd t) := by
  funext r d
  unfold mat head bt hd
  blk_ext [iblk, V, index_1]
theorem mat_2 (t : Fin cfg0.N) : mat (iblk m c 2 t) = head (m ((c : Thread nD τ).loc main_arg2)) (bt t) (hd t) := by
  funext r d
  unfold mat head bt hd
  blk_ext [iblk, V, index_2]

theorem fetch_5 : ∀ t : Fin cfg0.N, (cfg0.win 5).fetch t = false := by decide +kernel
theorem fetch_7 : ∀ t : Fin cfg0.N, (cfg0.win 7).fetch t = false := by decide +kernel
theorem fetch_9 : ∀ t : Fin cfg0.N, (cfg0.win 9).fetch t = false := by decide +kernel

/-! ## What each buffer holds after each point -/

variable (x k v : Arr)

/-- After point `t` the whole-block results' buffers hold the results of the point's head, and the row results' buffers the rows of
    the batch's heads so far. -/
def Holds : Rel Ideal := fun w t => match w with
  | ⟨0, _⟩ => fun _ => True
  | ⟨1, _⟩ => fun _ => True
  | ⟨2, _⟩ => fun _ => True
  | ⟨3, _⟩ => fun X => ∀ (s : Fin 2048) (d : Fin 128), X (ix3 0 s d) = out (head x (bt t) (hd t)) (head k (bt t) (hd t)) (head v (bt t) (hd t)) s d
  | ⟨4, _⟩ => fun X => ∀ (s : Fin 2048) (d : Fin 128), X (ix3 0 s d) = FloatOps.fptosi (F := Ideal) (φ := .f32) 8 (qcode (head x (bt t) (hd t)) s d)
  | ⟨5, _⟩ => fun X => ∀ (h : Fin 8) (g : Fin 16), (h : ℕ) ≤ t.val % 8 → X (ix3 0 h g) = qscale (head x (bt t) h) g
  | ⟨6, _⟩ => fun X => ∀ (s : Fin 2048) (d : Fin 128), X (ix3 0 s d) = FloatOps.fptosi (F := Ideal) (φ := .f32) 8 (kcode (head k (bt t) (hd t)) s d)
  | ⟨7, _⟩ => fun X => ∀ (h : Fin 8) (g : Fin 32), (h : ℕ) ≤ t.val % 8 → X (ix3 0 h g) = kscale (head k (bt t) h) g
  | ⟨8, _⟩ => fun X => ∀ (s : Fin 2048) (d : Fin 128), X (ix3 0 s d) = vcode (head v (bt t) (hd t)) s d
  | ⟨9, _⟩ => fun X => ∀ (h : Fin 8) (d : Fin 128), (h : ℕ) ≤ t.val % 8 → X (ix3 0 h d) = vscale (head v (bt t) h) d

/-- What a row result's buffer holds when the body of a point that does not open a batch starts: what the point before it left. -/
theorem finds_prev (Rl : Rel Ideal) {w : Fin cfg0.W} (hw : outs w = true) (hfetch : ∀ t, (cfg0.win w).fetch t = false)
    (hflush : ∀ t, (cfg0.win w).flush t = true ↔ t.val % 8 = 7) (t : Fin cfg0.N) (ht : t.val % 8 ≠ 0) {Y} (hY : (rdats m Rl c).Finds w t Y) :
    Rl w ⟨t.val - 1, Nat.lt_of_le_of_lt (Nat.sub_le _ _) t.isLt⟩ Y := by
  rcases ((rdats m Rl c).finds_of_pos (hfetch t) (by omega) Y).mp hY with h | h
  · have h : (t.val - 1) % 8 = 7 := (hflush _).mp h
    omega
  · exact Pipeline.Dat.toRRel_leaves (dats m c) hw h

theorem row_step {n : ℕ} (T : Fin 8 → Fin 8 → Fin n → EReal) (t : Fin cfg0.N) (X Y : (⟨3, ![1, 8, n]⟩ : Shape).Idx → EReal) (R : Fin n → EReal)
    (hX : ∀ (h : Fin 8) (g : Fin n), X (ix3 0 h g) = if (h : ℕ) = t.val % 8 then R g else Y (ix3 0 h g)) (hR : ∀ g, R g = T (bt t) (hd t) g)
    (hY : t.val % 8 ≠ 0 → ∀ (h : Fin 8) (g : Fin n), (h : ℕ) ≤ (t.val - 1) % 8 →
      Y (ix3 0 h g) = T (bt ⟨t.val - 1, Nat.lt_of_le_of_lt (Nat.sub_le _ _) t.isLt⟩) h g)
    (h : Fin 8) (g : Fin n) (hh : (h : ℕ) ≤ t.val % 8) : X (ix3 0 h g) = T (bt t) h g := by
  rw [hX]
  split
  · next e => rw [hR, show hd t = h from Fin.ext e.symm]
  · next e =>
    rw [hY (by omega) h g (by omega)]
    congr 1
    apply Fin.ext
    show (t.val - 1) / 8 = t.val / 8
    omega

/-- Each point's body keeps `Holds`. -/
theorem leaves (hx : m ((c : Thread nD τ).loc main_arg0) = x) (hk : m ((c : Thread nD τ).loc main_arg1) = k) (hv : m ((c : Thread nD τ).loc main_arg2) = v)
    (h16 : ∀ b h, Fin16 (head v b h)) : Leaves m (Holds x k v) c where
  o3 t s d := by
    refine (o3_apply c t _ _ _ (by rw [mat_2, hv]; exact h16 _ _) s d).trans ?_
    rw [mat_0, mat_1, mat_2, hx, hk, hv]
  o4 t s d := by
    refine (o4_apply c t _ _ _ s d).trans ?_
    rw [mat_0, hx]
  o5 t Y hY := by
    refine row_step (fun b h g => qscale (head x b h) g) t _ Y _ (o5_apply c t _ _ _ Y) (fun g => by rw [mat_0, hx]) fun ht => ?_
    exact finds_prev m c _ rfl fetch_5 flush0_5 t ht hY
  o6 t s d := by
    refine (o6_apply c t _ _ _ s d).trans ?_
    rw [mat_1, hk]
  o7 t Y hY := by
    refine row_step (fun b h g => kscale (head k b h) g) t _ Y _ (o7_apply c t _ _ _ Y) (fun g => by rw [mat_1, hk]) fun ht => ?_
    exact finds_prev m c _ rfl fetch_7 flush0_7 t ht hY
  o8 t s d := by
    refine (o8_apply c t _ _ _ (by rw [mat_2, hv]; exact h16 _ _) s d).trans ?_
    rw [mat_2, hv]
  o9 t Y hY := by
    refine row_step (fun b h d => vscale (head v b h) d) t _ Y _ (o9_apply c t _ _ _ (by rw [mat_2, hv]; exact h16 _ _) Y) (fun g => by rw [mat_2, hv]) fun ht => ?_
    exact finds_prev m c _ rfl fetch_9 flush0_9 t ht hY

/-! ## The result arrays -/

/-- The lane of a column, and its head. -/
def ch (e : Fin 1024) : Fin 8 := ⟨e / 128, by omega⟩
def cln (e : Fin 1024) : Fin 128 := ⟨e % 128, by omega⟩

def R3 : S8x2048x1024.Idx → Elt Ideal .bf16 := fun i => out (head x (i 0) (ch (i 2))) (head k (i 0) (ch (i 2))) (head v (i 0) (ch (i 2))) (i 1) (cln (i 2))
def R4 : S8x2048x1024.Idx → Elt Ideal .i8 := fun i => FloatOps.fptosi (F := Ideal) (φ := .f32) 8 (qcode (head x (i 0) (ch (i 2))) (i 1) (cln (i 2)))
def R5 : S8x8x16.Idx → Elt Ideal .f32 := fun i => qscale (head x (i 0) (i 1)) (i 2)
def R6 : S8x2048x1024.Idx → Elt Ideal .i8 := fun i => FloatOps.fptosi (F := Ideal) (φ := .f32) 8 (kcode (head k (i 0) (ch (i 2))) (i 1) (cln (i 2)))
def R7 : S8x8x32.Idx → Elt Ideal .f32 := fun i => kscale (head k (i 0) (i 1)) (i 2)
def R8 : S8x2048x1024.Idx → Elt Ideal .fp8e4m3 := fun i => vcode (head v (i 0) (ch (i 2))) (i 1) (cln (i 2))
def R9 : S8x8x128.Idx → Elt Ideal .f32 := fun i => vscale (head v (i 0) (i 1)) (i 2)

/-- An index of the array under a block's index `y` of point `t`: batch, row, and the head's lane. -/
theorem under_block (t : Fin cfg0.N) (y : S1x2048x128.Idx) (i : S8x2048x1024.Idx) (h0 : (i 0 : ℕ) = t.val / 8) (h1 : (i 1 : ℕ) = (y 1 : ℕ))
    (h2 : (i 2 : ℕ) = t.val % 8 * 128 + (y 2 : ℕ)) :
    y = ix3 0 (y 1) (y 2) ∧ (i 0 : Fin 8) = bt t ∧ ch (i 2) = hd t ∧ (i 1 : Fin 2048) = y 1 ∧ cln (i 2) = y 2 := by
  have b2 : (y 2 : ℕ) < 128 := (y 2).isLt
  have b0 : (y 0 : ℕ) < 1 := (y 0).isLt
  refine ⟨?_, Fin.ext h0, Fin.ext ?_, Fin.ext h1, Fin.ext ?_⟩
  · funext a; apply Fin.ext
    fin_cases a
    · show (y 0 : ℕ) = 0; omega
    · rfl
    · rfl
  · show (i 2 : ℕ) / 128 = t.val % 8; omega
  · show (i 2 : ℕ) % 128 = (y 2 : ℕ); omega

/-- The same of a batch's rows. -/
theorem under_rows {n : ℕ} (t : Fin cfg0.N) (y : (⟨3, ![1, 8, n]⟩ : Shape).Idx) (i : (⟨3, ![8, 8, n]⟩ : Shape).Idx) (h0 : (i 0 : ℕ) = t.val / 8)
    (h1 : (i 1 : ℕ) = (y 1 : ℕ)) (h2 : (i 2 : ℕ) = (y 2 : ℕ)) :
    y = ix3 0 (y 1) (y 2) ∧ (i 0 : Fin 8) = bt t ∧ (i 1 : Fin 8) = y 1 ∧ (i 2 : Fin n) = y 2 := by
  have b0 : (y 0 : ℕ) < 1 := (y 0).isLt
  refine ⟨?_, Fin.ext h0, Fin.ext h1, Fin.ext h2⟩
  funext a; apply Fin.ext
  fin_cases a
  · show (y 0 : ℕ) = 0; omega
  · rfl
  · rfl

/-! The arrays after the run, from what each write-back's buffer held. -/

theorem final_3 (after : (w' : Fin cfg0.W) → Fin cfg0.N → (cfg0.win w').block.Idx → Elt Ideal (cfg0.win w').elt)
    (h : ∀ t, (cfg0.win 3).flush t = true → Holds x k v 3 t (after 3 t)) :
    ((rdats m (Holds x k v) c).withAfter after).arrAt 3 cfg0.N = R3 x k v := by
  refine Pipeline.Dat.arrAt_eq_of_covers _ 3 _ (by decide +kernel) fun t hf y => ?_
  obtain ⟨ey, e0, e2, e1, el⟩ := under_block t y (((cfg0.win 3).blk t).view.emb y) (by blk_simp [index_3]) (by blk_simp [index_3]) (by blk_simp [index_3])
  show after 3 t y = R3 x k v (((cfg0.win 3).blk t).view.emb y)
  unfold R3
  rw [e0, e1, e2, el]
  refine (congrArg (after 3 t) ey).trans ?_
  exact h t hf (y 1) (y 2)

theorem final_4 (after : (w' : Fin cfg0.W) → Fin cfg0.N → (cfg0.win w').block.Idx → Elt Ideal (cfg0.win w').elt)
    (h : ∀ t, (cfg0.win 4).flush t = true → Holds x k v 4 t (after 4 t)) :
    ((rdats m (Holds x k v) c).withAfter after).arrAt 4 cfg0.N = R4 x := by
  refine Pipeline.Dat.arrAt_eq_of_covers _ 4 _ (by decide +kernel) fun t hf y => ?_
  obtain ⟨ey, e0, e2, e1, el⟩ := under_block t y (((cfg0.win 4).blk t).view.emb y) (by blk_simp [index_4]) (by blk_simp [index_4]) (by blk_simp [index_4])
  show after 4 t y = R4 x (((cfg0.win 4).blk t).view.emb y)
  unfold R4
  rw [e0, e1, e2, el]
  refine (congrArg (after 4 t) ey).trans ?_
  exact h t hf (y 1) (y 2)

theorem final_5 (after : (w' : Fin cfg0.W) → Fin cfg0.N → (cfg0.win w').block.Idx → Elt Ideal (cfg0.win w').elt)
    (h : ∀ t, (cfg0.win 5).flush t = true → Holds x k v 5 t (after 5 t)) :
    ((rdats m (Holds x k v) c).withAfter after).arrAt 5 cfg0.N = R5 x := by
  refine Pipeline.Dat.arrAt_eq_of_covers _ 5 _ (by decide +kernel) fun t hf y => ?_
  obtain ⟨ey, e0, e1, e2⟩ := under_rows t y (((cfg0.win 5).blk t).view.emb y) (by blk_simp [index_5]) (by blk_simp [index_5]) (by blk_simp [index_5])
  show after 5 t y = R5 x (((cfg0.win 5).blk t).view.emb y)
  unfold R5
  rw [e0, e1, e2]
  refine (congrArg (after 5 t) ey).trans ?_
  have b1 : (y 1 : ℕ) < 8 := (y 1).isLt
  have e7 : t.val % 8 = 7 := (flush0_5 t).mp hf
  exact h t hf (y 1) (y 2) (by omega)

theorem final_6 (after : (w' : Fin cfg0.W) → Fin cfg0.N → (cfg0.win w').block.Idx → Elt Ideal (cfg0.win w').elt)
    (h : ∀ t, (cfg0.win 6).flush t = true → Holds x k v 6 t (after 6 t)) :
    ((rdats m (Holds x k v) c).withAfter after).arrAt 6 cfg0.N = R6 k := by
  refine Pipeline.Dat.arrAt_eq_of_covers _ 6 _ (by decide +kernel) fun t hf y => ?_
  obtain ⟨ey, e0, e2, e1, el⟩ := under_block t y (((cfg0.win 6).blk t).view.emb y) (by blk_simp [index_6]) (by blk_simp [index_6]) (by blk_simp [index_6])
  show after 6 t y = R6 k (((cfg0.win 6).blk t).view.emb y)
  unfold R6
  rw [e0, e1, e2, el]
  refine (congrArg (after 6 t) ey).trans ?_
  exact h t hf (y 1) (y 2)

theorem final_7 (after : (w' : Fin cfg0.W) → Fin cfg0.N → (cfg0.win w').block.Idx → Elt Ideal (cfg0.win w').elt)
    (h : ∀ t, (cfg0.win 7).flush t = true → Holds x k v 7 t (after 7 t)) :
    ((rdats m (Holds x k v) c).withAfter after).arrAt 7 cfg0.N = R7 k := by
  refine Pipeline.Dat.arrAt_eq_of_covers _ 7 _ (by decide +kernel) fun t hf y => ?_
  obtain ⟨ey, e0, e1, e2⟩ := under_rows t y (((cfg0.win 7).blk t).view.emb y) (by blk_simp [index_7]) (by blk_simp [index_7]) (by blk_simp [index_7])
  show after 7 t y = R7 k (((cfg0.win 7).blk t).view.emb y)
  unfold R7
  rw [e0, e1, e2]
  refine (congrArg (after 7 t) ey).trans ?_
  have b1 : (y 1 : ℕ) < 8 := (y 1).isLt
  have e7 : t.val % 8 = 7 := (flush0_7 t).mp hf
  exact h t hf (y 1) (y 2) (by omega)

theorem final_8 (after : (w' : Fin cfg0.W) → Fin cfg0.N → (cfg0.win w').block.Idx → Elt Ideal (cfg0.win w').elt)
    (h : ∀ t, (cfg0.win 8).flush t = true → Holds x k v 8 t (after 8 t)) :
    ((rdats m (Holds x k v) c).withAfter after).arrAt 8 cfg0.N = R8 v := by
  refine Pipeline.Dat.arrAt_eq_of_covers _ 8 _ (by decide +kernel) fun t hf y => ?_
  obtain ⟨ey, e0, e2, e1, el⟩ := under_block t y (((cfg0.win 8).blk t).view.emb y) (by blk_simp [index_8]) (by blk_simp [index_8]) (by blk_simp [index_8])
  show after 8 t y = R8 v (((cfg0.win 8).blk t).view.emb y)
  unfold R8
  rw [e0, e1, e2, el]
  refine (congrArg (after 8 t) ey).trans ?_
  exact h t hf (y 1) (y 2)

theorem final_9 (after : (w' : Fin cfg0.W) → Fin cfg0.N → (cfg0.win w').block.Idx → Elt Ideal (cfg0.win w').elt)
    (h : ∀ t, (cfg0.win 9).flush t = true → Holds x k v 9 t (after 9 t)) :
    ((rdats m (Holds x k v) c).withAfter after).arrAt 9 cfg0.N = R9 v := by
  refine Pipeline.Dat.arrAt_eq_of_covers _ 9 _ (by decide +kernel) fun t hf y => ?_
  obtain ⟨ey, e0, e1, e2⟩ := under_rows t y (((cfg0.win 9).blk t).view.emb y) (by blk_simp [index_9]) (by blk_simp [index_9]) (by blk_simp [index_9])
  show after 9 t y = R9 v (((cfg0.win 9).blk t).view.emb y)
  unfold R9
  rw [e0, e1, e2]
  refine (congrArg (after 9 t) ey).trans ?_
  have b1 : (y 1 : ℕ) < 8 := (y 1).isLt
  have e7 : t.val % 8 = 7 := (flush0_9 t).mp hf
  exact h t hf (y 1) (y 2) (by omega)

/-- The run: every result array ends at what it says, the arguments unchanged. -/
theorem run (hx : ∀ c : Dev nD, m ((c : Thread nD τ).loc main_arg0) = x) (hk : ∀ c : Dev nD, m ((c : Thread nD τ).loc main_arg1) = k)
    (hv : ∀ c : Dev nD, m ((c : Thread nD τ).loc main_arg2) = v) (h16 : ∀ b h, Fin16 (head v b h)) :
    θ_run defs (onTc (τ := τ) (main (F := Ideal))) ⟨m, fun _ => 0, ρ⟩ fun r => ∀ c : Dev nD,
      r.2.mem ((c : Thread nD τ).loc main_v0_0) = R3 x k v ∧ r.2.mem ((c : Thread nD τ).loc main_v0_1) = R4 x
      ∧ r.2.mem ((c : Thread nD τ).loc main_v0_2) = R5 x ∧ r.2.mem ((c : Thread nD τ).loc main_v0_3) = R6 k
      ∧ r.2.mem ((c : Thread nD τ).loc main_v0_4) = R7 k ∧ r.2.mem ((c : Thread nD τ).loc main_v0_5) = R8 v
      ∧ r.2.mem ((c : Thread nD τ).loc main_v0_6) = R9 v
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r hr c => ?_) (run_main m ρ (Holds x k v) fun c => leaves m c x k v (hx c) (hk c) (hv c) h16)
  obtain ⟨after, hL, hA⟩ := Pipeline.RDat.FramePost.exists_exact hr.1 c
  have hH : ∀ w, outs w = true → ∀ t, (cfg0.win w).flush t = true → Holds x k v w t (after w t) :=
    fun w hw t hf => Pipeline.Dat.toRRel_leaves (dats m c) hw (hL w t hf)
  exact ⟨(hA 3).trans (final_3 m c x k v after (hH 3 rfl)), (hA 4).trans (final_4 m c x k v after (hH 4 rfl)),
    (hA 5).trans (final_5 m c x k v after (hH 5 rfl)), (hA 6).trans (final_6 m c x k v after (hH 6 rfl)),
    (hA 7).trans (final_7 m c x k v after (hH 7 rfl)), (hA 8).trans (final_8 m c x k v after (hH 8 rfl)),
    (hA 9).trans (final_9 m c x k v after (hH 9 rfl)), unchanged_of m _ hr.1 c⟩

end Cert.KernelIdeal.Val

end
-- ==== Proof.RefVal.lean ====
module

public import proofs.«01_k».proof.Proof.Spec
public import Idealize.ShloMosaic.Lib.Pointwise
public import Idealize.ShloMosaic.Lib.Pointwise.IndexVar
public import proofs.«01_k».proof.Proof.Gen.ReferenceIdeal.Skeleton

@[expose] public section

set_option maxRecDepth 16384

noncomputable section

/-! What the reference's payloads are, element by element. -/

namespace Cert.ReferenceIdeal.Val

open Cert.ReferenceIdeal Cert.ReferenceIdeal.Gen Cert.Spec
open Idealize.ShloMosaic Idealize.ShloMosaic.TcCoe Idealize.SL.Sem

variable (v0 : Vec Ideal S8x2048x1024 .bf16)

theorem mk128 (s : Fin 2048) (h : (s : ℕ) / 128 * 128 + (s : ℕ) % 128 < 2048) : (⟨(s : ℕ) / 128 * 128 + (s : ℕ) % 128, h⟩ : Fin 2048) = s :=
  Fin.ext (by show (s : ℕ) / 128 * 128 + (s : ℕ) % 128 = s; omega)
theorem mk64 (s : Fin 2048) (h : (s : ℕ) / 64 * 64 + (s : ℕ) % 64 < 2048) : (⟨(s : ℕ) / 64 * 64 + (s : ℕ) % 64, h⟩ : Fin 2048) = s :=
  Fin.ext (by show (s : ℕ) / 64 * 64 + (s : ℕ) % 64 = s; omega)

theorem q2 (b : Fin 8) (g : Fin 16) (r : Fin 128) (h : Fin 8) (d : Fin 128) :
    k0_pay2 v0 (ix5 b g r h d) = query (head v0 b h) ⟨g * 128 + r, by omega⟩ d := by
  pointwise [k0_pay2]; rfl

theorem q3 (b : Fin 8) (g : Fin 16) (h : Fin 8) : k0_pay3 v0 (ix3 b g h) = qscale (head v0 b h) g := by
  pointwise [k0_pay3]
  simp only [q2]; rfl

theorem q4 (b : Fin 8) (s : Fin 2048) (h : Fin 8) (d : Fin 128) :
    k0_pay4 v0 (ix4 b s h d) = FloatOps.fptosi (F := Ideal) (φ := .f32) 8 (qcode (head v0 b h) s d) := by
  pointwise [k0_pay4]
  simp only [q2, q3, mk128]; rfl

theorem qc_apply (b : Fin 8) (s : Fin 2048) (e : Fin 1024) :
    k0_pay5 v0 (ix3 b s e) = FloatOps.fptosi (F := Ideal) (φ := .f32) 8 (qcode (head v0 b ⟨e / 128, by omega⟩) s ⟨e % 128, by omega⟩) := by
  pointwise [k0_pay5]
  exact q4 v0 b s _ _

theorem qs_apply (b : Fin 8) (h : Fin 8) (g : Fin 16) : k0_pay6 v0 (ix3 b h g) = qscale (head v0 b h) g := by
  pointwise [k0_pay6]
  exact q3 v0 b g h

theorem k7 (b : Fin 8) (s : Fin 2048) (h : Fin 8) (d : Fin 128) : k0_pay7 v0 (ix4 b s h d) = head v0 b h s d := by
  pointwise [k0_pay7]; rfl

theorem k8 (b : Fin 8) (h : Fin 8) (d : Fin 128) : k0_pay8 v0 (ix4 b 0 h d) = Ideal.div (∑ x, head v0 b h x d) (Ideal.ofBits .f32 1157627904#32) := by
  pointwise [k0_pay8]
  simp only [k7]

theorem k9 (b : Fin 8) (g : Fin 32) (r : Fin 64) (h : Fin 8) (d : Fin 128) :
    k0_pay9 (k0_pay7 v0) (k0_pay8 v0) (ix5 b g r h d) = key (head v0 b h) ⟨g * 64 + r, by omega⟩ d := by
  pointwise [k0_pay9]
  simp only [k7, k8]; rfl

theorem k10 (b : Fin 8) (g : Fin 32) (h : Fin 8) : k0_pay10 (k0_pay7 v0) (k0_pay8 v0) (ix3 b g h) = kscale (head v0 b h) g := by
  pointwise [k0_pay10]
  simp only [k9]; rfl

theorem k11 (b : Fin 8) (s : Fin 2048) (h : Fin 8) (d : Fin 128) :
    k0_pay11 (k0_pay7 v0) (k0_pay8 v0) (ix4 b s h d) = FloatOps.fptosi (F := Ideal) (φ := .f32) 8 (kcode (head v0 b h) s d) := by
  pointwise [k0_pay11]
  simp only [k9, k10, mk64]; rfl

theorem kc_apply (b : Fin 8) (s : Fin 2048) (e : Fin 1024) :
    k0_pay12 (k0_pay7 v0) (k0_pay8 v0) (ix3 b s e) = FloatOps.fptosi (F := Ideal) (φ := .f32) 8 (kcode (head v0 b ⟨e / 128, by omega⟩) s ⟨e % 128, by omega⟩) := by
  pointwise [k0_pay12]
  exact k11 v0 b s _ _

theorem ks_apply (b : Fin 8) (h : Fin 8) (g : Fin 32) : k0_pay13 (k0_pay7 v0) (k0_pay8 v0) (ix3 b h g) = kscale (head v0 b h) g := by
  pointwise [k0_pay13]
  exact k10 v0 b g h

end Cert.ReferenceIdeal.Val

end
-- ==== Proof.RefV.lean ====
module

public import proofs.«01_k».proof.Proof.RefVal

@[expose] public section

set_option maxRecDepth 16384

noncomputable section

/-! The reference's values and attention, element by element. -/

namespace Cert.ReferenceIdeal.Val

open Cert.ReferenceIdeal Cert.ReferenceIdeal.Gen Cert.Spec
open Idealize.ShloMosaic Idealize.ShloMosaic.TcCoe Idealize.SL.Sem

section V

variable (v0 : Vec Ideal S8x2048x1024 .bf16)

theorem v14 (b : Fin 8) (s : Fin 2048) (h : Fin 8) (d : Fin 128) : k0_pay14 v0 (ix4 b s h d) = head v0 b h s d := by
  pointwise [k0_pay14]; rfl

theorem red1 (v : FVec Ideal S8x2048x8x128 .f32) (b : Fin 8) (h : Fin 8) (d : Fin 128) :
    (multiReduction .maximumf [1] S8x8x128 v 0xFF800000#32 reduces_S8x2048x8x128_S8x8x128 (.inl rfl) rfl) (ix3 b h d)
      = Finset.univ.fold max (Ideal.ofBits .f32 0xFF800000#32) fun r : Fin 2048 => v (ix4 b r h d) := by
  pointwise

theorem mulc (A : FVec Ideal S8x8x128 .f32) (i : S8x8x128.Idx) :
    mulf A (broadcast S8x8x128 (Scalar.ofBits .f32 0x3B124925#32)) i = A i * Ideal.ofBits .f32 991054117#32 := rfl

theorem v15 (b : Fin 8) (h : Fin 8) (d : Fin 128) : k0_pay15 v0 (ix3 b h d) = vtop (head v0 b h) d := by
  have e : k0_pay15 v0 = mulf (multiReduction .maximumf [1] S8x8x128 (absf (k0_pay14 v0)) 0xFF800000#32 reduces_S8x2048x8x128_S8x8x128 (.inl rfl) rfl)
      (broadcast S8x8x128 (Scalar.ofBits .f32 0x3B124925#32)) := rfl
  have ha : ∀ r : Fin 2048, absf (k0_pay14 v0) (ix4 b r h d) = FloatOps.absf (F := Ideal) (φ := .f32) (head v0 b h r d) :=
    fun r => congrArg (FloatOps.absf (F := Ideal) (φ := .f32)) (v14 v0 b r h d)
  rw [e, mulc, red1, vtop]
  simp only [ha]

theorem g19 (A : FVec Ideal S8x8x128 .f32) (b : Fin 8) (h : Fin 8) (d : Fin 128) :
    k0_pay19 (cmpf .olt A (broadcast S8x8x128 (Scalar.ofBits .f32 0x00800000#32))) (log A) (log (broadcast S8x8x128 (Scalar.ofBits .f32 0x40000000#32))) (ix3 b h d)
      = expOf (A (ix3 b h d)) := by
  pointwise [k0_pay19]; rfl

theorem v19 (b : Fin 8) (h : Fin 8) (d : Fin 128) : k0_pay19 (k0_pay16 v0) (k0_pay17 v0) k0_pay18 (ix3 b h d) = vexp (head v0 b h) d := by
  have e1 : k0_pay16 v0 = cmpf .olt (k0_pay15 v0) (broadcast S8x8x128 (Scalar.ofBits .f32 0x00800000#32)) := rfl
  have e2 : k0_pay17 v0 = log (k0_pay15 v0) := rfl
  have e3 : k0_pay18 (F := Ideal) = log (broadcast S8x8x128 (Scalar.ofBits .f32 0x40000000#32)) := rfl
  rw [e1, e2, e3]
  exact (g19 (k0_pay15 v0) b h d).trans (congrArg expOf (v15 v0 b h d))

theorem v20 (v70 : IVec S8x8x128 1) (v71 v73 : FVec Ideal S8x8x128 .f32) (b : Fin 8) (h : Fin 8) (d : Fin 128) :
    k0_pay20 v70 v71 v73 (ix3 b h d) = Ideal.exp2 (k0_pay19 v70 v71 v73 (ix3 b h d)) := rfl

theorem vs_apply (b : Fin 8) (h : Fin 8) (d : Fin 128) : k0_pay20 (k0_pay16 v0) (k0_pay17 v0) k0_pay18 (ix3 b h d) = vscale (head v0 b h) d :=
  (v20 _ _ _ b h d).trans (congrArg Ideal.exp2 (v19 v0 b h d))

theorem g21 (v64 : FVec Ideal S8x2048x8x128 .f32) (v70 : IVec S8x8x128 1) (v71 v73 : FVec Ideal S8x8x128 .f32) (b : Fin 8) (s : Fin 2048) (h : Fin 8) (d : Fin 128) :
    k0_pay21 v64 v70 v71 v73 (ix4 b s h d) = cl (v64 (ix4 b s h d) * Ideal.exp2 (0 - k0_pay19 v70 v71 v73 (ix3 b h d))) := by
  pointwise [k0_pay21]; rfl

theorem v21 (b : Fin 8) (s : Fin 2048) (h : Fin 8) (d : Fin 128) :
    k0_pay21 (k0_pay14 v0) (k0_pay16 v0) (k0_pay17 v0) k0_pay18 (ix4 b s h d) = vcode (head v0 b h) s d := by
  rw [g21, v14, v19, vcode]

theorem g22 (v64 : FVec Ideal S8x2048x8x128 .f32) (v70 : IVec S8x8x128 1) (v71 v73 : FVec Ideal S8x8x128 .f32) (b : Fin 8) (s : Fin 2048) (e : Fin 1024) :
    k0_pay22 v64 v70 v71 v73 (ix3 b s e) = k0_pay21 v64 v70 v71 v73 (ix4 b s ⟨e / 128, by omega⟩ ⟨e % 128, by omega⟩) := by
  pointwise [k0_pay22]

theorem vc_apply (b : Fin 8) (s : Fin 2048) (e : Fin 1024) :
    k0_pay22 (k0_pay14 v0) (k0_pay16 v0) (k0_pay17 v0) k0_pay18 (ix3 b s e) = vcode (head v0 b ⟨e / 128, by omega⟩) s ⟨e % 128, by omega⟩ :=
  (g22 _ _ _ _ b s e).trans (v21 v0 b s _ _)

end V

end Cert.ReferenceIdeal.Val

end
-- ==== Proof.RefOut.lean ====
module

public import proofs.«01_k».proof.Proof.RefV

@[expose] public section

set_option maxRecDepth 16384

noncomputable section

/-! The reference's values and attention, element by element. -/

namespace Cert.ReferenceIdeal.Val

open Cert.ReferenceIdeal Cert.ReferenceIdeal.Gen Cert.Spec
open Idealize.ShloMosaic Idealize.ShloMosaic.TcCoe Idealize.SL.Sem

variable (x k v : Vec Ideal S8x2048x1024 .bf16)

theorem sge_nat {a c : ℕ} (h : a < 2 ^ 31) (h' : c < 2 ^ 31) :
    IntOp.cmpi .sge (BitVec.ofNat 32 a) (BitVec.ofNat 32 c) = BitVec.ofBool (decide (c ≤ a)) := by
  have e1 : (BitVec.ofNat 32 a).toInt = (a : ℤ) := by
    rw [BitVec.toInt_ofNat', Int.bmod_eq_of_le] <;> push_cast <;> omega
  have e2 : (BitVec.ofNat 32 c).toInt = (c : ℤ) := by
    rw [BitVec.toInt_ofNat', Int.bmod_eq_of_le] <;> push_cast <;> omega
  show BitVec.ofBool (BitVec.sle (BitVec.ofNat 32 c) (BitVec.ofNat 32 a)) = _
  rw [BitVec.sle, e1, e2]
  simp only [Nat.cast_le]

theorem g23 (v14 : FVec Ideal S8x16x8 .f32) (v24 : IVec S8x2048x8x128 8) (v47 : FVec Ideal S8x32x8 .f32) (v57 : IVec S8x2048x8x128 8) (b h : Fin 8) (q j : Fin 2048) :
    k0_pay23 v14 v24 v47 v57 (ix4 b h q j) = Scalar.select (IntOp.cmpi .sge (BitVec.ofNat 32 q) (BitVec.ofNat 32 j))
      ((∑ d : Fin 128, FloatOps.sitofp (F := Ideal) .bf16 (v24 (ix4 b q h d)) * FloatOps.sitofp (F := Ideal) .bf16 (v57 (ix4 b j h d)))
        * v14 (ix3 b ⟨q / 128, by omega⟩ h) * v47 (ix3 b ⟨j / 64, by omega⟩ h)) (Ideal.ofBits .f32 0xFF800000#32) := by
  pointwise [k0_pay23]

theorem score_apply (b h : Fin 8) (q j : Fin 2048) :
    k0_pay23 (k0_pay3 x) (k0_pay4 x) (k0_pay10 (k0_pay7 k) (k0_pay8 k)) (k0_pay11 (k0_pay7 k) (k0_pay8 k)) (ix4 b h q j)
      = rscore (head x b h) (head k b h) q j := by
  rw [g23, sge_nat (by omega) (by omega), lit_neginf, rscore]
  simp only [q3, q4, k10, k11, qcode, kcode, code_roundtrip]
  by_cases hc : (j : ℕ) ≤ q
  · rw [if_pos hc, decide_eq_true hc]; rfl
  · rw [if_neg hc, decide_eq_false hc]; rfl

theorem g1 (v80 : FVec Ideal S8x8x128 .f32) (v91 : FVec Ideal S8x2048x8x128 .fp8e4m3) (v118 : FVec Ideal S8x8x2048x2048 .f32) (b : Fin 8) (s : Fin 2048) (e : Fin 1024) :
    k0_pay1 v80 v91 v118 (ix3 b s e) = outOf (fun j => v118 (ix4 b ⟨e / 128, by omega⟩ s j))
      (fun j => v91 (ix4 b j ⟨e / 128, by omega⟩ ⟨e % 128, by omega⟩)) (v80 (ix3 b ⟨e / 128, by omega⟩ ⟨e % 128, by omega⟩)) := by
  unfold outOf cl
  pointwise [k0_pay1]

theorem out_apply (b : Fin 8) (s : Fin 2048) (e : Fin 1024) :
    k0_pay1 (k0_pay20 (k0_pay16 v) (k0_pay17 v) k0_pay18) (k0_pay21 (k0_pay14 v) (k0_pay16 v) (k0_pay17 v) k0_pay18)
      (k0_pay23 (k0_pay3 x) (k0_pay4 x) (k0_pay10 (k0_pay7 k) (k0_pay8 k)) (k0_pay11 (k0_pay7 k) (k0_pay8 k))) (ix3 b s e)
      = out (head x b ⟨e / 128, by omega⟩) (head k b ⟨e / 128, by omega⟩) (head v b ⟨e / 128, by omega⟩) s ⟨e % 128, by omega⟩ := by
  rw [g1, out, vs_apply]
  congr 1
  · funext j; exact score_apply x k b _ s j
  · funext j; exact v21 v b j _ _

end Cert.ReferenceIdeal.Val

end
-- ==== Proof.Algebraic.lean ====
module

public import proofs.«01_k».proof.Defs
public import proofs.«01_k».proof.Proof.KerArrays
public import proofs.«01_k».proof.Proof.RefOut
public import proofs.«01_k».proof.Proof.Gen.ReferenceIdeal.Value

@[expose] public section

set_option maxRecDepth 16384

noncomputable section

/-! Over the extended reals the kernel and the reference end at the same seven results. -/

namespace Cert.ReferenceIdeal.Val

open Cert.ReferenceIdeal Cert.ReferenceIdeal.Gen Cert.ReferenceIdeal.Value Cert.Spec
open Idealize.ShloMosaic Idealize.ShloMosaic.TcCoe Idealize.SL.Sem

section Names

variable {F : FTy → Type} [FloatOps F] (x k v : Vec F S8x2048x1024 .bf16)

theorem n24 : k0_pay24 x k v = k0_pay7 k := by
  unfold k0_pay24
  rw [View.ld_unit_lit _ _ (by decide)]
theorem n25 : k0_pay25 x k v = k0_pay8 k := by
  unfold k0_pay25
  rw [View.ld_unit_lit _ _ (by decide)]
theorem n26 : k0_pay26 x k v = k0_pay14 v := by
  unfold k0_pay26
  rw [View.ld_unit_lit _ _ (by decide)]
theorem n27 : k0_pay27 x k v = k0_pay16 v := by
  unfold k0_pay27
  rw [View.ld_unit_lit _ _ (by decide)]
theorem n28 : k0_pay28 x k v = k0_pay17 v := by
  unfold k0_pay28
  rw [View.ld_unit_lit _ _ (by decide)]
theorem n29 : k0_pay29 x k v = k0_pay18 := by
  unfold k0_pay29
  rfl

end Names

variable (x k v : Vec Ideal S8x2048x1024 .bf16)

/-- A function of a three-axis index, from its values at coordinates. -/
theorem ext3 {a b c : ℕ} {α : Type} {f g : (⟨3, ![a, b, c]⟩ : Shape).Idx → α} (h : ∀ (i : Fin a) (j : Fin b) (l : Fin c), f (ix3 i j l) = g (ix3 i j l)) : f = g := by
  funext i
  have e : i = ix3 (i 0) (i 1) (i 2) := by
    funext q; fin_cases q <;> rfl
  rw [e]
  exact h _ _ _

theorem r3 : G3 x k v = Cert.KernelIdeal.Val.R3 x k v := by
  unfold G3
  rw [n24, n25, n26, n27, n28, n29]
  exact ext3 fun b s e => out_apply x k v b s e
theorem r4 : G4 x k v = Cert.KernelIdeal.Val.R4 x := ext3 fun b s e => qc_apply x b s e
theorem r5 : G5 x k v = Cert.KernelIdeal.Val.R5 x := ext3 fun b h g => qs_apply x b h g
theorem r6 : G6 x k v = Cert.KernelIdeal.Val.R6 k := by
  unfold G6
  rw [n24, n25]
  exact ext3 fun b s e => kc_apply k b s e
theorem r7 : G7 x k v = Cert.KernelIdeal.Val.R7 k := by
  unfold G7
  rw [n24, n25]
  exact ext3 fun b h g => ks_apply k b h g
theorem r8 : G8 x k v = Cert.KernelIdeal.Val.R8 v := by
  unfold G8
  rw [n26, n27, n28, n29]
  exact ext3 fun b s e => vc_apply v b s e
theorem r9 : G9 x k v = Cert.KernelIdeal.Val.R9 v := by
  unfold G9
  rw [n27, n28, n29]
  exact ext3 fun b h d => vs_apply v b h d

end Cert.ReferenceIdeal.Val

namespace Cert.Proof

open Cert.Spec
open Idealize.ShloMosaic Idealize.ShloMosaic.TcCoe Idealize.SL.Sem

/-- The precondition's shape relation. -/
theorem preFacts : Cert.Pre_finite_values.Facts := ⟨by decide⟩

/-- The precondition says that every value is at most the greatest bf16 number in magnitude. -/
theorem fin16_of_pre [Cert.Pre_finite_values.Facts] (x k v : FVec Ideal Cert.Pre_finite_values.S8x2048x1024 .bf16)
    (h : Cert.Pre_finite_values.fn (F := Ideal) x k v = fun _ => 1#1) (b e : Fin 8) : Cert.KernelIdeal.Val.Fin16 (head v b e) := by
  intro r d
  have h1 := congrFun h (ix3 b r ⟨e * 128 + d, by omega⟩)
  have h2 : BitVec.ofBool (decide (FloatOps.absf (F := Ideal) (φ := .bf16) (v (ix3 b r ⟨e * 128 + d, by omega⟩)) ≤ Ideal.ofBits .bf16 0x7F7F#16)) = 1#1 := h1
  by_contra hn
  have hn : ¬ FloatOps.absf (F := Ideal) (φ := .bf16) (v (ix3 b r ⟨e * 128 + d, by omega⟩)) ≤ Ideal.ofBits .bf16 0x7F7F#16 := hn
  rw [decide_eq_false hn] at h2
  exact absurd h2 (by decide)

/-- The kernel and the reference compute the same seven arrays. -/
theorem algebraic : Cert.algebraic_KernelIdeal_ReferenceIdeal_pre_finite_values (hKernelIdeal := Cert.KernelIdeal.Gen.facts)
    (hReferenceIdeal := Cert.ReferenceIdeal.Gen.facts) (hPre_finite_values := preFacts) := by
  intro m ρ m' ρ' hpre hagree
  let c0 : Dev Cert.KernelIdeal.nD := 0
  have hc : ∀ c : Dev Cert.KernelIdeal.nD, c = c0 := fun c => Subsingleton.elim _ _
  have h16 : ∀ b h, Cert.KernelIdeal.Val.Fin16 (head (m ((c0 : Thread Cert.KernelIdeal.nD Cert.KernelIdeal.τ).loc Cert.KernelIdeal.main_arg2)) b h) :=
    fun b h => @fin16_of_pre preFacts _ _ _ (hpre c0) b h
  refine ⟨_, _, _, _, _, _, _, Cert.KernelIdeal.Val.run m ρ _ _ _ (fun c => by rw [hc c]) (fun c => by rw [hc c]) (fun c => by rw [hc c]) h16, ?_⟩
  refine (θ_run Cert.ReferenceIdeal.defs _ _).mono (fun _ h c => ?_) (Cert.ReferenceIdeal.Value.run (F := Ideal) m' ρ')
  obtain ⟨h0, h1, h2, h3, h4, h5, h6, ha0, ha1, ha2⟩ := h c
  obtain ⟨g0, g1, g2⟩ := hagree c
  obtain rfl := hc c
  refine ⟨h0.trans ?_, h1.trans ?_, h2.trans ?_, h3.trans ?_, h4.trans ?_, h5.trans ?_, h6.trans ?_, ha0, ha1, ha2⟩
  · rw [Cert.ReferenceIdeal.Val.r3, g0, g1, g2]
  · rw [Cert.ReferenceIdeal.Val.r4, g0]
  · rw [Cert.ReferenceIdeal.Val.r5, g0]
  · rw [Cert.ReferenceIdeal.Val.r6, g1]
  · rw [Cert.ReferenceIdeal.Val.r7, g1]
  · rw [Cert.ReferenceIdeal.Val.r8, g2]
  · rw [Cert.ReferenceIdeal.Val.r9, g2]

end Cert.Proof

end
-- ==== Proof.lean ====
module

public import proofs.«01_k».proof.Defs
public import proofs.«01_k».proof.Proof.Gen.Kernel.Frame
public import proofs.«01_k».proof.Proof.KernelFrame.Body
public import proofs.«01_k».proof.Proof.Gen.KernelIdeal.Frame
public import proofs.«01_k».proof.Proof.Gen.KernelIdeal.Skeleton
public import proofs.«01_k».proof.Proof.Gen.ReferenceIdeal.Value
public import proofs.«01_k».proof.Proof.Body
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, preFacts,
    fun m ρ _ => Cert.Kernel.Val.frame m ρ, fun m ρ _ => Cert.KernelIdeal.Val.frame m ρ, fun m ρ _ => Cert.KernelIdeal.Val.frame m ρ,
    fun m ρ _ => Cert.ReferenceIdeal.Gen.frame m ρ, fun m ρ _ => Cert.ReferenceIdeal.Gen.frame m ρ,
    IdealRules.named_const.statement Cert.KernelIdeal.κ "log2e" .f32 0x3FB8AA3B#32 (((Real.log 2)⁻¹ : ℝ) : EReal) rfl, algebraic⟩

end Cert.Proof

end
